-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![2048, 1024]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S2x128x1024 : Shape := ⟨3, ![2, 128, 1024]⟩
abbrev S2x256x1024 : Shape := ⟨3, ![2, 256, 1024]⟩
abbrev S2 : Shape := ⟨1, ![2]⟩
abbrev S_ : Shape := ⟨0, ![]⟩
abbrev S256x512 : Shape := ⟨2, ![256, 512]⟩
abbrev S256x1024 : Shape := ⟨2, ![256, 1024]⟩
abbrev S1 : Shape := ⟨1, ![1]⟩
abbrev S1x128x1024 : Shape := ⟨3, ![1, 128, 1024]⟩
abbrev S128x1024 : Shape := ⟨2, ![128, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S512x1024, .bf16⟩
  | .hbm, ⟨2, _⟩ => ⟨S1024x1024, .bf16⟩
  | .local _ .vmem, ⟨0, _⟩ => ⟨S1024x512, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x128x1024, .bf16⟩
  | .local _ .vmem, ⟨5, _⟩ => ⟨S2x256x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v38 : BitVec 32 := Scalar.muli v14 c1_i32_21
  let v39 : BitVec 32 := Scalar.addi c0_i32_22 v38
  v39.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_24 : BitVec 32 := 1#32
  let v40 : BitVec 32 := Scalar.muli v25 c1_i32_24
  let v41 : BitVec 32 := Scalar.addi c0_i32_25 v40
  v41.toNat
def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c256_i32 : BitVec 32 := 256#32
  let v44 : BitVec 32 := Scalar.muli v36 c256_i32
  let v45 : Index := Scalar.indexCast v44
  let c0_28 : Index := 0#32
  ![v45.toNat, 0]
def k0_off2 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c256_i32_29 : BitVec 32 := 256#32
  let v50 : BitVec 32 := Scalar.muli v36 c256_i32_29
  let v51 : Index := Scalar.indexCast v50
  let c0_30 : Index := 0#32
  ![v51.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c256_i32_31 : BitVec 32 := 256#32
  let v55 : BitVec 32 := Scalar.muli v36 c256_i32_31
  let c0_i32_39 : BitVec 32 := 0#32
  ![v55.toNat, 0]
def k0_dev3 (d0 : Dev nD) : Nat :=
  let c0_i32_36 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_35 : BitVec 32 := 1#32
  let v56 : BitVec 32 := Scalar.muli v14 c1_i32_35
  let v57 : BitVec 32 := Scalar.addi c0_i32_36 v56
  v57.toNat
def k0_off4 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : BitVec 32 := Scalar.addi v2 c2_i32
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c256_i32_40 : BitVec 32 := 256#32
  let v65 : BitVec 32 := Scalar.muli v36 c256_i32_40
  let c128_i32 : BitVec 32 := 128#32
  let v66 : BitVec 32 := Scalar.addi v65 c128_i32
  let c0_i32_48 : BitVec 32 := 0#32
  ![v66.toNat, 0]
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_44 : BitVec 32 := 1#32
  let v67 : BitVec 32 := Scalar.muli v25 c1_i32_44
  let v68 : BitVec 32 := Scalar.addi c0_i32_45 v67
  v68.toNat
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c256_i32_54 : BitVec 32 := 256#32
  let v87 : BitVec 32 := Scalar.muli v14 c256_i32_54
  let v88 : Index := Scalar.indexCast v87
  let c0_55 : Index := 0#32
  ![v88.toNat, 0]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c256_i32_57 : BitVec 32 := 256#32
  let v93 : BitVec 32 := Scalar.muli v14 c256_i32_57
  let v94 : Index := Scalar.indexCast v93
  let c0_58 : Index := 0#32
  ![v94.toNat, 0]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_59 : BitVec 32 := 256#32
  let v98 : BitVec 32 := Scalar.muli v2 c256_i32_59
  let v99 : Index := Scalar.indexCast v98
  let c0_60 : Index := 0#32
  ![v99.toNat, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c256_i32_72 : BitVec 32 := 256#32
  let v111 : BitVec 32 := Scalar.muli v25 c256_i32_72
  let c128_i32_73 : BitVec 32 := 128#32
  let v112 : BitVec 32 := Scalar.addi v111 c128_i32_73
  let v113 : Index := Scalar.indexCast v112
  let c0_74 : Index := 0#32
  ![v113.toNat, 0]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c256_i32_79 : BitVec 32 := 256#32
  let v125 : BitVec 32 := Scalar.muli v25 c256_i32_79
  let c0_i32_87 : BitVec 32 := 0#32
  ![v125.toNat, 0]
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_83 : BitVec 32 := 1#32
  let v126 : BitVec 32 := Scalar.muli v25 c1_i32_83
  let v127 : BitVec 32 := Scalar.addi c0_i32_84 v126
  v127.toNat
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c256_i32_98 : BitVec 32 := 256#32
  let v143 : BitVec 32 := Scalar.muli v14 c256_i32_98
  let v144 : Index := Scalar.indexCast v143
  let c0_99 : Index := 0#32
  ![v144.toNat, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c256_i32_103 : BitVec 32 := 256#32
  let v156 : BitVec 32 := Scalar.muli v14 c256_i32_103
  let c0_i32_111 : BitVec 32 := 0#32
  ![v156.toNat, 0]
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_107 : BitVec 32 := 1#32
  let v157 : BitVec 32 := Scalar.muli v14 c1_i32_107
  let v158 : BitVec 32 := Scalar.addi c0_i32_108 v157
  v158.toNat
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_141 : BitVec 32 := 256#32
  let v199 : BitVec 32 := Scalar.muli v2 c256_i32_141
  let v200 : Index := Scalar.indexCast v199
  let c0_142 : Index := 0#32
  ![v200.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_144 : BitVec 32 := 256#32
  let v203 : BitVec 32 := Scalar.muli v2 c256_i32_144
  let c0_i32_149 : BitVec 32 := 0#32
  ![v203.toNat, 0]
def k0_dev7 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_147 : BitVec 32 := 1#32
  let v204 : BitVec 32 := Scalar.muli v14 c1_i32_147
  let v205 : BitVec 32 := Scalar.addi c0_i32_148 v204
  v205.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_155 : BitVec 32 := 1#32
  let v214 : BitVec 32 := Scalar.muli v25 c1_i32_155
  let v215 : BitVec 32 := Scalar.addi c0_i32_156 v214
  v215.toNat
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c256_i32_167 : BitVec 32 := 256#32
  let v230 : BitVec 32 := Scalar.muli v14 c256_i32_167
  let c0_i32_172 : BitVec 32 := 0#32
  ![v230.toNat, 0]
def k0_dev9 (d0 : Dev nD) : Nat :=
  let c0_i32_171 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_170 : BitVec 32 := 1#32
  let v231 : BitVec 32 := Scalar.muli v25 c1_i32_170
  let v232 : BitVec 32 := Scalar.addi c0_i32_171 v231
  v232.toNat
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_187 : BitVec 32 := 1#32
  let v250 : BitVec 32 := Scalar.muli v14 c1_i32_187
  let v251 : BitVec 32 := Scalar.addi c0_i32_188 v250
  v251.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x2048 : Shape := ⟨2, ![1024, 2048]⟩
abbrev S2048x1024 : Shape := ⟨2, ![2048, 1024]⟩
abbrev S1024x1024 : Shape := ⟨2, ![1024, 1024]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x1024, .bf16⟩
  | .hbm, ⟨2, _⟩ => ⟨S1024x2048, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Ideal.Geometry.lean ====
/-
The geometry of one launch of the kernel, four devices on a ring: the neighbours of a device, the row offsets the
kernel computes from its device id in closed form, the sets of elements a block of rows or one slot of a landing buffer covers,
and where an index of such a block lies in its buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.ValueLayout

@[expose] public section

noncomputable section

namespace Cert.KernelIdeal.Work

open Cert.KernelIdeal Cert.KernelIdeal.Gen
open Idealize.ShloMosaic Idealize.ShloMosaic.TcCoe Idealize.ShloMosaic.ValueIdx

/-! ## The ring -/

set_option backward.proofsInPublic true in
/-- The device after `c`. -/
def nxt (c : Dev nD) : Dev nD := ⟨(c.val + 1) % 4, Nat.mod_lt _ (by decide)⟩
set_option backward.proofsInPublic true in
/-- The device before `c`. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
/-- Two steps either way around four devices meet. -/
theorem prv_prv (c : Dev nD) : prv (prv c) = nxt (nxt c) := by revert c; decide

theorem nxt_ne_prv (c : Dev nD) : (nxt c).val ≠ (prv c).val := by revert c; decide
/-- The four devices of the ring, from any one. -/
theorem four (c : Dev nD) (x : ℕ) (h : x < 4) : x = c.val ∨ x = (nxt c).val ∨ x = (prv c).val ∨ x = (nxt (nxt c)).val := by
  obtain ⟨c, hc⟩ := c
  unfold nxt prv
  dsimp only
  change c < 4 at hc
  omega

def ring : Dev nD ≃ Dev nD := ⟨nxt, prv, prv_nxt, nxt_prv⟩

/-- The devices the kernel's signals and remote copies name. -/
theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = prv c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = nxt c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = prv c := by revert c; decide +kernel
theorem dev8_eq (c : Dev nD) : (⟨k0_dev8 c, k0_dev8_lt c⟩ : Dev nD) = nxt c := by revert c; decide +kernel
theorem dev9_eq (c : Dev nD) : (⟨k0_dev9 c, k0_dev9_lt c⟩ : Dev nD) = nxt c := by revert c; decide +kernel
theorem dev10_eq (c : Dev nD) : (⟨k0_dev10 c, k0_dev10_lt c⟩ : Dev nD) = prv c := by revert c; decide +kernel

/-! ## Row offsets in closed form: chunk `q` is rows `256 q … 256 q + 255` -/

theorem off1_far (c : Dev nD) : k0_off1 c 2#32 = ![256 * (nxt (nxt c)).val, 0] := by revert c; decide +kernel
theorem off1_nxt (c : Dev nD) : k0_off1 c 1#32 = ![256 * (nxt c).val, 0] := by revert c; decide +kernel
theorem off2_far (c : Dev nD) : k0_off2 c 2#32 = ![256 * (nxt (nxt c)).val, 0] := by revert c; decide +kernel
theorem off2_nxt (c : Dev nD) : k0_off2 c 1#32 = ![256 * (nxt c).val, 0] := by revert c; decide +kernel
theorem off3_eq (c : Dev nD) : k0_off3 c = ![256 * (nxt (nxt c)).val, 0] := by revert c; decide +kernel
theorem off4_far (c : Dev nD) : k0_off4 c 2#32 = ![256 * (nxt (nxt c)).val + 128, 0] := by revert c; decide +kernel
theorem off4_nxt (c : Dev nD) : k0_off4 c 1#32 = ![256 * (nxt c).val + 128, 0] := by revert c; decide +kernel
theorem off5_eq (c : Dev nD) : k0_off5 c = ![256 * (prv c).val, 0] := by revert c; decide +kernel
theorem off6_eq (c : Dev nD) : k0_off6 c = ![256 * (prv c).val, 0] := by revert c; decide +kernel
theorem off7_eq (c : Dev nD) : k0_off7 c = ![256 * c.val, 0] := by revert c; decide +kernel
theorem off8_eq (c : Dev nD) : k0_off8 c = ![256 * (nxt c).val + 128, 0] := by revert c; decide +kernel
theorem off9_eq (c : Dev nD) : k0_off9 c = ![256 * (nxt c).val, 0] := by revert c; decide +kernel
theorem off10_eq (c : Dev nD) : k0_off10 c = ![256 * (prv c).val, 0] := by revert c; decide +kernel
theorem off11_eq (c : Dev nD) : k0_off11 c = ![256 * (prv c).val, 0] := by revert c; decide +kernel
theorem off12_eq (c : Dev nD) : k0_off12 c = ![256 * c.val, 0] := by revert c; decide +kernel
theorem off13_eq (c : Dev nD) : k0_off13 c = ![256 * c.val, 0] := by revert c; decide +kernel
theorem off14_eq (c : Dev nD) : k0_off14 c = ![256 * (prv c).val, 0] := by revert c; decide +kernel

/-! ## Indices by their coordinates -/

/-- The index of a shape with the coordinates `v`, each taken modulo its extent. -/
def wrap (s : Shape) (h : ∀ a, 0 < s.size a) (v : Fin s.rank → ℕ) : s.Idx := fun a => ⟨v a % s.size a, Nat.mod_lt _ (h a)⟩

/-- An index is `wrap` of coordinates that agree with its own. -/
theorem eq_wrap {s : Shape} {h : ∀ a, 0 < s.size a} {v : Fin s.rank → ℕ} (i : s.Idx) (hv : ∀ a, v a = (i a).val) : i = wrap s h v :=
  funext fun a => Fin.ext (by unfold wrap; simp only [hv, Nat.mod_eq_of_lt (i a).isLt])

theorem pos_A : ∀ a, 0 < S1024x1024.size a := by decide
theorem pos_X : ∀ a, 0 < S1024x512.size a := by decide
theorem pos_rows : ∀ a, 0 < S256x1024.size a := by decide
theorem pos_half : ∀ a, 0 < S128x1024.size a := by decide
theorem pos_H : ∀ a, 0 < S2x128x1024.size a := by decide
theorem pos_F : ∀ a, 0 < S2x256x1024.size a := by decide

/-- Row `a`, column `b`: of the accumulator (and of the result), of the left operand, of a chunk, of half a chunk. -/
def atA (a b : ℕ) : S1024x1024.Idx := wrap _ pos_A ![a, b]
def atX (a b : ℕ) : S1024x512.Idx := wrap _ pos_X ![a, b]
def atR (a b : ℕ) : S256x1024.Idx := wrap _ pos_rows ![a, b]
def atT (a b : ℕ) : S128x1024.Idx := wrap _ pos_half ![a, b]
/-- Slot `k`, row `a`, column `b` of the landing buffer of half chunks, and of whole chunks. -/
def atH (k a b : ℕ) : S2x128x1024.Idx := wrap _ pos_H ![k, a, b]
def atF (k a b : ℕ) : S2x256x1024.Idx := wrap _ pos_F ![k, a, b]

theorem eq_atA (i : S1024x1024.Idx) {a b : ℕ} (ha : a = (i 0).val) (hb : b = (i 1).val) : i = atA a b :=
  eq_wrap i fun x => by fin_cases x <;> assumption
theorem eq_atX (i : S1024x512.Idx) {a b : ℕ} (ha : a = (i 0).val) (hb : b = (i 1).val) : i = atX a b :=
  eq_wrap i fun x => by fin_cases x <;> assumption
theorem eq_atH (i : S2x128x1024.Idx) {k a b : ℕ} (hk : k = (i 0).val) (ha : a = (i 1).val) (hb : b = (i 2).val) : i = atH k a b :=
  eq_wrap i fun x => by fin_cases x <;> assumption
theorem eq_atF (i : S2x256x1024.Idx) {k a b : ℕ} (hk : k = (i 0).val) (ha : a = (i 1).val) (hb : b = (i 2).val) : i = atF k a b :=
  eq_wrap i fun x => by fin_cases x <;> assumption
/-- A chunk's index from a row of the whole array in that chunk. -/
theorem eq_atR (i : S256x1024.Idx) {a b : ℕ} (ha : a % 256 = (i 0).val) (hb : b = (i 1).val) : i = atR a b :=
  funext fun x => Fin.ext (by
    fin_cases x
    · exact ha.symm
    · show (i 1).val = b % 1024
      rw [hb]; exact (Nat.mod_eq_of_lt (i 1).isLt).symm)
theorem eq_atT (i : S128x1024.Idx) {a b : ℕ} (ha : a % 128 = (i 0).val) (hb : b = (i 1).val) : i = atT a b :=
  funext fun x => Fin.ext (by
    fin_cases x
    · exact ha.symm
    · show (i 1).val = b % 1024
      rw [hb]; exact (Nat.mod_eq_of_lt (i 1).isLt).symm)

/-! ## Bands of rows and slots -/

/-- Rows `o … o + n - 1` of an array of 1024 rows of 1024. -/
def band (o n : ℕ) : Finset S1024x1024.Idx := Finset.univ.filter fun i => o ≤ (i 0).val ∧ (i 0).val < o + n
/-- Slot `k` of a landing buffer. -/
def slotH (k : ℕ) : Finset S2x128x1024.Idx := Finset.univ.filter fun i => (i 0).val = k
def slotF (k : ℕ) : Finset S2x256x1024.Idx := Finset.univ.filter fun i => (i 0).val = k

theorem mem_band {o n : ℕ} {i : S1024x1024.Idx} : i ∈ band o n ↔ o ≤ (i 0).val ∧ (i 0).val < o + n := by simp [band]
theorem mem_slotH {k : ℕ} {i : S2x128x1024.Idx} : i ∈ slotH k ↔ (i 0).val = k := by simp [slotH]
theorem mem_slotF {k : ℕ} {i : S2x256x1024.Idx} : i ∈ slotF k ↔ (i 0).val = k := by simp [slotF]

theorem band_disjoint {o n o' n' : ℕ} (h : o + n ≤ o' ∨ o' + n' ≤ o) : Disjoint (band o n) (band o' n') :=
  Finset.disjoint_left.mpr fun i hi hi' => by
    rw [mem_band] at hi hi'; omega

theorem band_split (o n n' : ℕ) : band o (n + n') = band o n ∪ band (o + n) n' := by
  ext i; rw [Finset.mem_union, mem_band, mem_band, mem_band]; omega

/-- The rectangle of full rows at offset `o` covers the band. -/
theorem set_rows {n o : ℕ} {size off : Fin 2 → ℕ} {inb} (hs : size = ![n, 1024]) (ho : off = ![o, 0]) :
    (Rect.unit (s := S1024x1024) off size inb).set = band o n := by
  subst hs; subst ho
  ext i
  rw [Rect.mem_set_unit, mem_band]
  constructor
  · intro h; exact h 0
  · intro h a
    fin_cases a
    · exact h
    · exact ⟨Nat.zero_le _, by have h1 : (i 1).val < 1024 := (i 1).isLt; show (i 1).val < 0 + 1024; omega⟩

theorem set_slotH {k : ℕ} {inb} : (Rect.unit (s := S2x128x1024) ![k, 0, 0] S1x128x1024.size inb).set = slotH k := by
  ext i
  rw [Rect.mem_set_unit, mem_slotH]
  constructor
  · intro h; have := h 0
    change k ≤ (i 0).val ∧ (i 0).val < k + 1 at this
    omega
  · intro h a
    fin_cases a
    · show k ≤ (i 0).val ∧ (i 0).val < k + 1; omega
    · exact ⟨Nat.zero_le _, by have h1 : (i 1).val < 128 := (i 1).isLt; show (i 1).val < 0 + 128; omega⟩
    · exact ⟨Nat.zero_le _, by have h1 : (i 2).val < 1024 := (i 2).isLt; show (i 2).val < 0 + 1024; omega⟩

theorem set_slotF {k : ℕ} {inb} : (Rect.unit (s := S2x256x1024) ![k, 0, 0] S1x256x1024.size inb).set = slotF k := by
  ext i
  rw [Rect.mem_set_unit, mem_slotF]
  constructor
  · intro h; have := h 0
    change k ≤ (i 0).val ∧ (i 0).val < k + 1 at this
    omega
  · intro h a
    fin_cases a
    · show k ≤ (i 0).val ∧ (i 0).val < k + 1; omega
    · exact ⟨Nat.zero_le _, by have h1 : (i 1).val < 256 := (i 1).isLt; show (i 1).val < 0 + 256; omega⟩
    · exact ⟨Nat.zero_le _, by have h1 : (i 2).val < 1024 := (i 2).isLt; show (i 2).val < 0 + 1024; omega⟩

/-! ## Where the index of a block lies -/

theorem emb_A {size off : Fin 2 → ℕ} {inb} {o : ℕ} (ho : off = ![o, 0]) (x : (⟨2, size⟩ : Shape).Idx) :
    (Rect.unit (s := S1024x1024) off size inb).emb x = atA (o + (x 0).val) (x 1).val := by
  subst ho
  refine eq_atA _ ?_ ?_ <;> rw [Rect.emb_apply] <;> simp

theorem emb_X {size off : Fin 2 → ℕ} {inb} {o : ℕ} (ho : off = ![o, 0]) (x : (⟨2, size⟩ : Shape).Idx) :
    (Rect.unit (s := S1024x512) off size inb).emb x = atX (o + (x 0).val) (x 1).val := by
  subst ho
  refine eq_atX _ ?_ ?_ <;> rw [Rect.emb_apply] <;> simp

theorem emb_H {k : ℕ} {inb} (x : S1x128x1024.Idx) :
    (Rect.unit (s := S2x128x1024) ![k, 0, 0] S1x128x1024.size inb).emb x = atH k (x 1).val (x 2).val := by
  have h0 : (x 0).val < 1 := (x 0).isLt
  refine eq_atH _ ?_ ?_ ?_ <;> rw [Rect.emb_apply]
  · show k = k + 1 * (x 0).val; omega
  · show (x 1).val = 0 + 1 * (x 1).val; omega
  · show (x 2).val = 0 + 1 * (x 2).val; omega

theorem emb_F {k : ℕ} {inb} (x : S1x256x1024.Idx) :
    (Rect.unit (s := S2x256x1024) ![k, 0, 0] S1x256x1024.size inb).emb x = atF k (x 1).val (x 2).val := by
  have h0 : (x 0).val < 1 := (x 0).isLt
  refine eq_atF _ ?_ ?_ ?_ <;> rw [Rect.emb_apply]
  · show k = k + 1 * (x 0).val; omega
  · show (x 1).val = 0 + 1 * (x 1).val; omega
  · show (x 2).val = 0 + 1 * (x 2).val; omega

/-- Row and column of a half chunk, of a whole chunk, seen as the one slot of a block of slots. -/
theorem squeeze_H (h : S128x1024.numel = S1x128x1024.numel) (x : S128x1024.Idx) :
    (Shape.reshapeEquiv h x 1).val = (x 0).val ∧ (Shape.reshapeEquiv h x 2).val = (x 1).val := by
  have e := reshapeEquiv_ix2_1ab (a := 128) (b := 1024) h (x 0) (x 1)
  have hx : x = ix2 (x 0) (x 1) := eq_ix2 x
  rw [hx]
  exact ⟨congrArg (fun i : S1x128x1024.Idx => (i 1).val) e, congrArg (fun i : S1x128x1024.Idx => (i 2).val) e⟩
theorem squeeze_F (h : S256x1024.numel = S1x256x1024.numel) (x : S256x1024.Idx) :
    (Shape.reshapeEquiv h x 1).val = (x 0).val ∧ (Shape.reshapeEquiv h x 2).val = (x 1).val := by
  have e := reshapeEquiv_ix2_1ab (a := 256) (b := 1024) h (x 0) (x 1)
  have hx : x = ix2 (x 0) (x 1) := eq_ix2 x
  rw [hx]
  exact ⟨congrArg (fun i : S1x256x1024.Idx => (i 1).val) e, congrArg (fun i : S1x256x1024.Idx => (i 2).val) e⟩

end Cert.KernelIdeal.Work

end
-- ==== Proof.Ideal.Contents.lean ====
/-
What every buffer of the kernel holds at each stage of a launch, as functions of the devices' two operands.

Device `c` holds a left operand of 1024 × 512 and a right one of 512 × 1024. Its partial product's rows come in four chunks of
256; chunk `q` belongs to device `q`. A chunk on its way to its owner: the half of it that travels two steps first joins
the neighbour's copy (`redAt`), then the owner adds what both neighbours send (`outRows`) and applies the activation. The result every
device ends with is the four owners' chunks (`outAll`).
-/
module

public import proofs.«01_k».proof.Proof.Ideal.Geometry

@[expose] public section

set_option maxRecDepth 16384

noncomputable section

namespace Cert.KernelIdeal.Work

open Cert.KernelIdeal Cert.KernelIdeal.Gen
open Idealize.ShloMosaic Idealize.ShloMosaic.TcCoe

variable {F : FTy → Type} [FloatOps F]
variable (m : (ℓ : Loc nD τ sig) → Buf (Elt F) ℓ)

/-- The two operands of device `c` as its staging buffers hold them. -/
def lhs (c : Dev nD) : (cc0_stg0_0 : Ref sig .tc).ty.Contents (Elt F) :=
  (win0_0.blk (0 : Fin 1)).view.read (Elt F) (m ((c : Thread nD τ).loc main_arg0))
def rhs (c : Dev nD) : (cc0_stg1_0 : Ref sig .tc).ty.Contents (Elt F) :=
  (win0_1.blk (0 : Fin 1)).view.read (Elt F) (m ((c : Thread nD τ).loc main_arg1))

/-- Chunk `q` of device `c`'s left operand. -/
def lhsRows (c : Dev nD) (q : ℕ) : Vec F S256x512 .bf16 := fun x => lhs m c (atX (256 * q + (x 0).val) (x 1).val)

/-- Device `c`'s partial product, rounded. -/
def partAt (c : Dev nD) : (cc0_scratch0 : Ref sig .tc).ty.Contents (Elt F) :=
  fun i => k0_pay3 (k0_pay1 (rhs m c)) (lhsRows m c ((i 0).val / 256)) (atR (i 0).val (i 1).val)

/-- What lands in the two slots for half chunks on `c`: the upper half of `nxt c`'s chunk from `prv c`, the lower half of `prv c`'s from `nxt c`. -/
def halfAt (c : Dev nD) : (cc0_scratch1 : Ref sig .tc).ty.Contents (Elt F) :=
  fun i => if (i 0).val = 0 then partAt m (prv c) (atA (256 * (nxt c).val + 128 + (i 1).val) (i 2).val)
    else partAt m (nxt c) (atA (256 * (prv c).val + (i 1).val) (i 2).val)

/-- The partial product of `c` after it has added the two halves that landed. -/
def redAt (c : Dev nD) : (cc0_scratch0 : Ref sig .tc).ty.Contents (Elt F) :=
  fun i =>
    if (i 0).val / 128 = 2 * (nxt c).val + 1 then
      k0_pay6 (fun x => partAt m c (atA (256 * (nxt c).val + 128 + (x 0).val) (x 1).val)) (fun x => halfAt m c (atH 0 (x 1).val (x 2).val)) (atT (i 0).val (i 1).val)
    else if (i 0).val / 128 = 2 * (prv c).val then
      k0_pay7 (fun x => partAt m c (atA (256 * (prv c).val + (x 0).val) (x 1).val)) (fun x => halfAt m c (atH 1 (x 1).val (x 2).val)) (atT (i 0).val (i 1).val)
    else partAt m c i

/-- What lands in the two slots for whole chunks on `c`: its own chunk as `prv c` and as `nxt c` hold it. -/
def fullAt (c : Dev nD) : (cc0_scratch2 : Ref sig .tc).ty.Contents (Elt F) :=
  fun i => if (i 0).val = 0 then redAt m (prv c) (atA (256 * c.val + (i 1).val) (i 2).val)
    else redAt m (nxt c) (atA (256 * c.val + (i 1).val) (i 2).val)

/-- The owner's chunk of the product, unrounded, and the two chunks it adds. -/
def ownRows (c : Dev nD) : FVec F S256x1024 .f32 := k0_pay5 (k0_pay1 (rhs m c)) (lhsRows m c c.val)
def fullSlot (c : Dev nD) (k : ℕ) : Vec F S1x256x1024 .bf16 := fun x => fullAt m c (atF k (x 1).val (x 2).val)
/-- The owner's chunk of the result. -/
def outRows (c : Dev nD) : FVec F S256x1024 .bf16 :=
  k0_pay10 (k0_pay8 (ownRows m c) (fullSlot m c 0) (fullSlot m c 1)) (k0_pay9 (ownRows m c) (fullSlot m c 0) (fullSlot m c 1)) (Scalar.ofBits .f32 0x3F800000#32)

/-- The device whose chunk holds row `a`. -/
def owner (a : ℕ) : Dev nD := ⟨a / 256 % 4, Nat.mod_lt _ (by decide)⟩
/-- The result, the same on every device. -/
def outAll : (cc0_stg2_0 : Ref sig .tc).ty.Contents (Elt F) := fun i => outRows m (owner (i 0).val) (atR (i 0).val (i 1).val)

/-! ## The contents at a row and a column -/

omit [FloatOps F] in
theorem atA_row {a b : ℕ} (ha : a < 1024) : (atA a b 0).val = a := Nat.mod_eq_of_lt ha
theorem atA_col {a b : ℕ} (hb : b < 1024) : (atA a b 1).val = b := Nat.mod_eq_of_lt hb

variable {m}

/-- The product the kernel stores at chunk `q` is the partial product there. -/
theorem partAt_chunk (c : Dev nD) (q : Dev nD) (x : S256x1024.Idx) :
    partAt m c (atA (256 * q.val + (x 0).val) (x 1).val) = k0_pay3 (k0_pay1 (rhs m c)) (lhsRows m c q.val) x := by
  have hx : (x 0).val < 256 := (x 0).isLt
  have hy : (x 1).val < 1024 := (x 1).isLt
  have hq : q.val < 4 := q.isLt
  have hr : 256 * q.val + (x 0).val < 1024 := by omega
  unfold partAt
  rw [atA_row hr, atA_col hy, show (256 * q.val + (x 0).val) / 256 = q.val by omega]
  exact congrArg _ (eq_atR x (by omega) rfl).symm

theorem halfAt_zero (c : Dev nD) {a b : ℕ} (ha : a < 128) (hb : b < 1024) :
    halfAt m c (atH 0 a b) = partAt m (prv c) (atA (256 * (nxt c).val + 128 + a) b) := by
  unfold halfAt
  rw [show (atH 0 a b 0).val = 0 from rfl, if_pos rfl, show (atH 0 a b 1).val = a from Nat.mod_eq_of_lt ha,
    show (atH 0 a b 2).val = b from Nat.mod_eq_of_lt hb]
theorem halfAt_one (c : Dev nD) {a b : ℕ} (ha : a < 128) (hb : b < 1024) :
    halfAt m c (atH 1 a b) = partAt m (nxt c) (atA (256 * (prv c).val + a) b) := by
  unfold halfAt
  rw [show (atH 1 a b 0).val = 1 from rfl, if_neg Nat.one_ne_zero, show (atH 1 a b 1).val = a from Nat.mod_eq_of_lt ha,
    show (atH 1 a b 2).val = b from Nat.mod_eq_of_lt hb]

theorem fullAt_zero (c : Dev nD) {a b : ℕ} (ha : a < 256) (hb : b < 1024) :
    fullAt m c (atF 0 a b) = redAt m (prv c) (atA (256 * c.val + a) b) := by
  unfold fullAt
  rw [show (atF 0 a b 0).val = 0 from rfl, if_pos rfl, show (atF 0 a b 1).val = a from Nat.mod_eq_of_lt ha,
    show (atF 0 a b 2).val = b from Nat.mod_eq_of_lt hb]
theorem fullAt_one (c : Dev nD) {a b : ℕ} (ha : a < 256) (hb : b < 1024) :
    fullAt m c (atF 1 a b) = redAt m (nxt c) (atA (256 * c.val + a) b) := by
  unfold fullAt
  rw [show (atF 1 a b 0).val = 1 from rfl, if_neg Nat.one_ne_zero, show (atF 1 a b 1).val = a from Nat.mod_eq_of_lt ha,
    show (atF 1 a b 2).val = b from Nat.mod_eq_of_lt hb]

/-- After the first addition, in the upper half of `nxt c`'s chunk. -/
theorem redAt_hi (c : Dev nD) (x : S128x1024.Idx) :
    redAt m c (atA (256 * (nxt c).val + 128 + (x 0).val) (x 1).val)
      = k0_pay6 (fun x => partAt m c (atA (256 * (nxt c).val + 128 + (x 0).val) (x 1).val)) (fun x => halfAt m c (atH 0 (x 1).val (x 2).val)) x := by
  have hx : (x 0).val < 128 := (x 0).isLt
  have hy : (x 1).val < 1024 := (x 1).isLt
  have hq : (nxt c).val < 4 := (nxt c).isLt
  unfold redAt
  rw [atA_row (by omega), atA_col hy, if_pos (by omega)]
  exact congrArg _ (eq_atT x (by omega) rfl).symm
/-- After the second, in the lower half of `prv c`'s chunk. -/
theorem redAt_lo (c : Dev nD) (x : S128x1024.Idx) :
    redAt m c (atA (256 * (prv c).val + (x 0).val) (x 1).val)
      = k0_pay7 (fun x => partAt m c (atA (256 * (prv c).val + (x 0).val) (x 1).val)) (fun x => halfAt m c (atH 1 (x 1).val (x 2).val)) x := by
  have hx : (x 0).val < 128 := (x 0).isLt
  have hy : (x 1).val < 1024 := (x 1).isLt
  have hq : (prv c).val < 4 := (prv c).isLt
  unfold redAt
  rw [atA_row (by omega), atA_col hy, if_neg (by omega), if_pos (by omega)]
  exact congrArg _ (eq_atT x (by omega) rfl).symm
/-- Elsewhere in those two chunks the partial product stays. -/
theorem redAt_nxt_rest (c : Dev nD) (i : S1024x1024.Idx) (hi : i ∈ band (256 * (nxt c).val) 256) (hn : i ∉ band (256 * (nxt c).val + 128) 128) :
    partAt m c i = redAt m c i := by
  have hne := nxt_ne_prv c
  rw [mem_band] at hi hn
  unfold redAt
  rw [if_neg (by omega), if_neg (by omega)]
theorem redAt_prv_rest (c : Dev nD) (i : S1024x1024.Idx) (hi : i ∈ band (256 * (prv c).val) 256) (hn : i ∉ band (256 * (prv c).val) 128) :
    partAt m c i = redAt m c i := by
  have hne := nxt_ne_prv c
  rw [mem_band] at hi hn
  unfold redAt
  rw [if_neg (by omega), if_neg (by omega)]

/-- The owner's chunk of the result. -/
theorem outAll_chunk (q : Dev nD) (x : S256x1024.Idx) : outAll m (atA (256 * q.val + (x 0).val) (x 1).val) = outRows m q x := by
  have hx : (x 0).val < 256 := (x 0).isLt
  have hy : (x 1).val < 1024 := (x 1).isLt
  have hq : q.val < 4 := q.isLt
  unfold outAll
  rw [atA_row (by omega), atA_col hy, show owner (256 * q.val + (x 0).val) = q from Fin.ext (by show (256 * q.val + (x 0).val) / 256 % 4 = q.val; omega)]
  exact congrArg _ (eq_atR x (by omega) rfl).symm

/-! ## Loads, stores and landings -/

/-- A store into a rectangle of a whole buffer: `g'` agrees with the payload there and with the old contents elsewhere on `S`. -/
theorem store_eq (b : Ref sig .tc) (r : Rect b.ty.shape) {S : Finset b.ty.shape.Idx} {g g' : b.ty.Contents (Elt F)} {w : r.shape.Idx → Elt F b.ty.elt}
    (h1 : ∀ x, w x = g' (r.emb x)) (h2 : ∀ i ∈ S, i ∉ r.set → g i = g' i) :
    ∀ i ∈ S, ((Memref.whole b).access r : View sig .tc _ _ _).write (Elt F) g w Finset.univ i = g' i := fun i hi => by
  by_cases hr : i ∈ r.set
  · rw [← Rect.map_emb_univ] at hr
    obtain ⟨x, -, rfl⟩ := Finset.mem_map.mp hr
    exact (View.write_emb_of_mem (v := ((Memref.whole b).access r : View sig .tc _ _ _)) (Val := Elt F) g w (Finset.mem_univ x)).trans (h1 x)
  · exact (View.write_of_not_mem (v := ((Memref.whole b).access r : View sig .tc _ _ _)) (Val := Elt F) g w Finset.univ
      (by rw [View.setOn_univ, View.set_slice_whole]; exact hr)).trans (h2 i hi hr)

/-- What lands through a view is `g'` there when the payload is what the view reads of `g'`. -/
theorem land_eq {sp : Space} {s : Shape} {e : EltTy} (v : View sig .tc sp s e) {fd g' : v.ty.Contents (Elt F)} {w : s.Idx → Elt F e}
    (h : ∀ x, w x = v.read (Elt F) g' x) : ∀ i ∈ v.set, v.write (Elt F) fd w Finset.univ i = g' i := fun i hi => by
  obtain ⟨x, -, rfl⟩ := Finset.mem_map.mp hi
  rw [View.write_emb_of_mem _ _ (Finset.mem_univ x), h x, View.read_apply, cast_cast, cast_eq]

end Cert.KernelIdeal.Work

end
-- ==== Proof.Ideal.Protocol.lean ====
/-
The protocol of the kernel's semaphores: per device a barrier cell and sixteen cells of DMA semaphores, one round each.

Cell 0 is the barrier: both neighbours signal it once, each handing over the places on itself that the device will copy into.
Cells 1 … 16 are the eight pairs of DMA semaphores in order. The odd pairs (1, 2), (5, 6), (9, 10), (13, 14) are the departure cells of the
copies of half chunks, of whole chunks, of the device's own result and of the forwarded halves of the result; a departure hands the source
back. The pairs (3, 4), (7, 8), (11, 12), (15, 16) are the arrival cells: the odd one of a pair is paid by `prv c`, the even one by
`nxt c`, and an arrival hands over the landed elements with their contents.
-/
module

public import proofs.«01_k».proof.Proof.Ideal.Contents
public import Idealize.ShloMosaic.Lib.Quiescent

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev barS : Sem sig := (SemArray.scalar (sig.barrier 0 rfl) : Sems sig S_).sem

/-- The DMA semaphore of cell `k + 1`. -/
def dsem (k : Fin 16) : DmaSem sig := ⟨k.val + 3, by have := k.isLt; show k.val + 3 < 19; omega⟩
/-- The semaphore of a cell. -/
def csem (k : Fin 17) : SemLoc sig := if h : k = 0 then .reg barS else .dma (dsem (k.pred h))
abbrev osem (k : Fin 16) : SemLoc sig := .dma (dsem k)
abbrev kcell (ck : Dev nD × Fin 17) : GSem nD τ sig := ((ck.1 : Thread nD τ), csem ck.2)

/-- The cell a semaphore is, if it is one of the protocol's (17 for the others). -/
def cellIx : SemLoc sig → ℕ
  | .reg _ => 0
  | .dma s => if s.val < 3 then 17 else s.val - 2

theorem cellIx_csem (k : Fin 17) : cellIx (csem k) = k.val := by revert k; decide
theorem csem_injective : Function.Injective csem := fun a b h => Fin.ext (by rw [← cellIx_csem a, ← cellIx_csem b, h])

/-- The credit of a half chunk's copy and of a whole chunk's. -/
def halfN : ℕ := ((Memref.whole cc0_scratch0).slice (Rect.unit (s := S1024x1024) ![0, 0] S128x1024.size (by decide)) (fun _ => rfl) : Memref sig .tc .vmem S128x1024 .bf16).view.dmaCredit
def fullN : ℕ := ((Memref.whole cc0_scratch0).slice (Rect.unit (s := S1024x1024) ![0, 0] S256x1024.size (by decide)) (fun _ => rfl) : Memref sig .tc .vmem S256x1024 .bf16).view.dmaCredit
theorem halfN_pos : 0 < halfN := View.dmaCredit_pos _ (by decide)
theorem fullN_pos : 0 < fullN := View.dmaCredit_pos _ (by decide)

/-- What one duty of cell `k` pays. -/
def amt (k : ℕ) : ℕ := if k = 0 then 1 else if 5 ≤ k ∧ k ≤ 12 then fullN else halfN
theorem amt_pos (k : ℕ) : 0 < amt k := by
  unfold amt; split
  · exact Nat.one_pos
  · split
    · exact fullN_pos
    · exact halfN_pos

/-! ## What the duties hand over -/

section Places
variable (c : Dev nD)

/-- Elements of the accumulator, of the two landing buffers and of the result's staging buffer on device `c`. -/
def accPts (S : Finset S1024x1024.Idx) (q : PosShare TreeShare) (f : (cc0_scratch0 : Ref sig .tc).ty.Contents (Elt F)) : sProp 𝕄 :=
  (((c : Thread nD τ).loc cc0_scratch0) ↦[S]{q} f)
def halfPts (S : Finset S2x128x1024.Idx) (f : (cc0_scratch1 : Ref sig .tc).ty.Contents (Elt F)) : sProp 𝕄 :=
  (((c : Thread nD τ).loc cc0_scratch1) ↦[S]{fullShare} f)
def fullPts (S : Finset S2x256x1024.Idx) (f : (cc0_scratch2 : Ref sig .tc).ty.Contents (Elt F)) : sProp 𝕄 :=
  (((c : Thread nD τ).loc cc0_scratch2) ↦[S]{fullShare} f)
def outPts (S : Finset S1024x1024.Idx) (q : PosShare TreeShare) (f : (cc0_stg2_0 : Ref sig .tc).ty.Contents (Elt F)) : sProp 𝕄 :=
  (((c : Thread nD τ).loc cc0_stg2_0) ↦[S]{q} f)

instance (S : Finset S1024x1024.Idx) (q) (f) : BI.Storable (upEmb : UEmb _ 𝕄) (accPts (F := F) c S q f) := by unfold accPts; infer_instance
instance (S) (f) : BI.Storable (upEmb : UEmb _ 𝕄) (halfPts (F := F) c S f) := by unfold halfPts; infer_instance
instance (S) (f) : BI.Storable (upEmb : UEmb _ 𝕄) (fullPts (F := F) c S f) := by unfold fullPts; infer_instance
instance (S : Finset S1024x1024.Idx) (q) (f) : BI.Storable (upEmb : UEmb _ 𝕄) (outPts (F := F) c S q f) := by unfold outPts; infer_instance

/-- The whole chunk `q`, its lower and its upper half. -/
abbrev rows (q : Dev nD) : Finset S1024x1024.Idx := band (256 * q.val) 256
abbrev loRows (q : Dev nD) : Finset S1024x1024.Idx := band (256 * q.val) 128
abbrev hiRows (q : Dev nD) : Finset S1024x1024.Idx := band (256 * q.val + 128) 128

/-- What a neighbour `n` of the barrier's device hands over: slot `k` of both its landing buffers, and of its result the chunk `q`
    and the half chunk `h`. -/
def places (n : Dev nD) (k : ℕ) (q : Dev nD) (h : Finset S1024x1024.Idx) : sProp 𝕄 :=
  iprop((∃ f, halfPts n (slotH k) f) ∗ (∃ f, fullPts n (slotF k) f) ∗ (∃ f, outPts n (rows q) fullShare f) ∗ (∃ f, outPts n h fullShare f))

instance (n : Dev nD) (k : ℕ) (q : Dev nD) (h : Finset S1024x1024.Idx) : BI.Storable (upEmb : UEmb _ 𝕄) (places (F := F) n k q h) := by
  unfold places; infer_instance

/-- The barrier's duties: `true` is `nxt c`'s, `false` is `prv c`'s. -/
def barPay (d : Bool) : sProp 𝕄 := if d then places (nxt c) 0 c (loRows (prv c)) else places (prv c) 1 c (hiRows (nxt c))

/-- The DMA cells' payloads by the cell's number. -/
def dmaPay : ℕ → sProp 𝕄
  | 1 => iprop(∃ f, accPts c (loRows (nxt (nxt c))) fullShare f)
  | 2 => iprop(∃ f, accPts c (hiRows (nxt (nxt c))) fullShare f)
  | 3 => halfPts c (slotH 0) (halfAt m c)
  | 4 => halfPts c (slotH 1) (halfAt m c)
  | 5 => iprop(∃ f, accPts c (rows (nxt c)) fullShare f)
  | 6 => iprop(∃ f, accPts c (rows (prv c)) fullShare f)
  | 7 => fullPts c (slotF 0) (fullAt m c)
  | 8 => fullPts c (slotF 1) (fullAt m c)
  | 9 => outPts c (rows c) fullShare.left (outAll m)
  | 10 => outPts c (rows c) fullShare.right (outAll m)
  | 11 => outPts c (rows (prv c)) fullShare (outAll m)
  | 12 => outPts c (rows (nxt c)) fullShare (outAll m)
  | 13 => outPts c (loRows (prv c)) fullShare (outAll m)
  | 14 => outPts c (hiRows (nxt c)) fullShare (outAll m)
  | 15 => outPts c (loRows (nxt (nxt c))) fullShare (outAll m)
  | 16 => outPts c (hiRows (nxt (nxt c))) fullShare (outAll m)
  | _ => iprop(emp)

instance dmaPay_storable (k : ℕ) : BI.Storable (upEmb : UEmb _ 𝕄) (dmaPay (F := F) m c k) := by
  unfold dmaPay; split <;> infer_instance

end Places

/-! ## The schedule -/

/-- One round, round 0: the barrier has both duties, every DMA cell the duty `false`. -/
def Rd : Rounds.Schedule (GSem nD τ sig) Bool 𝕄 where
  duties g r := if r = 0 ∧ g.1.2 = .tc ∧ cellIx g.2 < 17 then (if cellIx g.2 = 0 then Finset.univ else {false}) else ∅
  unitless _ := False
  amount g _ _ := amt (cellIx g.2)
  payload g _ d := if cellIx g.2 = 0 then barPay g.1.1 d else dmaPay m g.1.1 (cellIx g.2)
  amount_pos g _ _ _ := amt_pos _

instance Rd_payload_storable (g : GSem nD τ sig) (r : ℕ) (d : Bool) : BI.Storable (upEmb : UEmb _ 𝕄) ((Rd (F := F) m).payload g r d) := by
  show BI.Storable upEmb (if cellIx g.2 = 0 then barPay g.1.1 d else dmaPay m g.1.1 (cellIx g.2))
  split
  · unfold barPay; split <;> infer_instance
  · infer_instance

section Tables
variable (c : Dev nD)

theorem duties_bar : (Rd (F := F) m).duties (kcell (c, 0)) 0 = Finset.univ := by
  dsimp only [Rd]; rw [cellIx_csem]; exact (if_pos ⟨rfl, rfl, by decide⟩).trans (if_pos rfl)
theorem duties_dma (k : Fin 17) (hk : k ≠ 0) : (Rd (F := F) m).duties (kcell (c, k)) 0 = {false} := by
  dsimp only [Rd]; rw [cellIx_csem]; exact (if_pos ⟨rfl, rfl, k.isLt⟩).trans (if_neg fun h => hk (Fin.ext h))
theorem duties_later (g : GSem nD τ sig) : ∀ r, 1 ≤ r → (Rd (F := F) m).duties g r = ∅ :=
  fun r hr => by dsimp only [Rd]; rw [if_neg fun h => by omega]
theorem amount_eq (k : Fin 17) (d : Bool) : (Rd (F := F) m).amount (kcell (c, k)) 0 d = amt k.val := by
  dsimp only [Rd]; rw [cellIx_csem]
theorem expect_bar : (Rd (F := F) m).expect (kcell (c, 0)) 0 = 2 := by
  unfold Schedule.expect Schedule.amountOf
  rw [duties_bar, Finset.sum_congr rfl fun d _ => amount_eq m c 0 d, Finset.sum_const, Finset.card_univ, Fintype.card_bool]; rfl
theorem expect_dma (k : Fin 17) (hk : k ≠ 0) : (Rd (F := F) m).expect (kcell (c, k)) 0 = amt k.val := by
  unfold Schedule.expect Schedule.amountOf; rw [duties_dma m c k hk, Finset.sum_singleton, amount_eq]
theorem payload_bar (d : Bool) : (Rd (F := F) m).payload (kcell (c, 0)) 0 d = barPay c d := by
  dsimp only [Rd]; rw [cellIx_csem]; exact if_pos rfl
theorem payload_dma (k : Fin 17) (hk : k ≠ 0) (d : Bool) : (Rd (F := F) m).payload (kcell (c, k)) 0 d = dmaPay m c k.val := by
  dsimp only [Rd]; rw [cellIx_csem]; exact if_neg fun h => hk (Fin.ext h)

theorem rest_bar : bigSep ((Rd (F := F) m).duties (kcell (c, 0)) 0 \ ∅) (fun d => (Rd (F := F) m).payload (kcell (c, 0)) 0 d)
    = iprop(places (prv c) 1 c (hiRows (nxt c)) ∗ places (nxt c) 0 c (loRows (prv c))) := by
  rw [Finset.sdiff_empty, duties_bar, bigSep_univ_eq_bigSepL [false, true] (by decide) (by decide), bigSepL_cons_cons, bigSepL_singleton,
    payload_bar, payload_bar]
  rfl
theorem rest_dma (k : Fin 17) (hk : k ≠ 0) : bigSep ((Rd (F := F) m).duties (kcell (c, k)) 0 \ ∅) (fun d => (Rd (F := F) m).payload (kcell (c, k)) 0 d)
    = dmaPay m c k.val := by
  rw [Finset.sdiff_empty, duties_dma m c k hk, bigSep_singleton, payload_dma m c k hk]

end Tables

/-! ## What a device owes, and the levels -/

/-- The neighbour of `c` on one side. -/
def nb (c : Dev nD) (b : Bool) : Dev nD := if b then nxt c else prv c

/-- What `c` owes: the payments still to make, each a side and a cell there. -/
def owed (c : Dev nD) : List (Bool × Fin 17) → CellTallies nD τ sig Unit
  | [] => 0
  | p :: l => owed c l + tallyAt (kcell (nb c p.1, p.2)) () (amt p.2.val)

/-- The payments a device makes, in program order. -/
def debts : List (Bool × Fin 17) :=
  [(false, 0), (true, 0), (false, 4), (true, 3), (true, 7), (false, 8), (false, 12), (true, 11), (true, 15), (false, 16)]

def L (g : GSem nD τ sig) : Finset Unit := if g.1.2 = .tc then {()} else ∅
/-- The barrier at 1, the four pairs of arrival cells above it in the order of the waits, everything else at 0. -/
def lvk (k : ℕ) : ℕ := if k = 0 then 1 else if k = 3 ∨ k = 4 then 2 else if k = 7 ∨ k = 8 then 3 else if k = 11 ∨ k = 12 then 4 else if k = 15 ∨ k = 16 then 5 else 0
def lv (g : GSem nD τ sig) (_ : Unit) : ℕ := lvk (cellIx g.2)

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {g : GSem nD τ sig} {u : Unit} (l : List (Bool × Fin 17)) (h : 0 < owed c l g u) :
    ∃ p ∈ l, g = kcell (nb c p.1, p.2) := by
  induction l with
  | nil => exact absurd h (Nat.lt_irrefl 0)
  | cons p l ih =>
    unfold owed at h
    rw [Pi.add_apply, Finsupp.add_apply, tallyAt_apply] at h
    by_cases hp : g = kcell (nb c p.1, p.2) ∧ u = ()
    · exact ⟨p, List.mem_cons_self, hp.1⟩
    · rw [if_neg hp, Nat.add_zero] at h
      obtain ⟨p', hp', e⟩ := ih h
      exact ⟨p', List.mem_cons_of_mem _ hp', e⟩

/-- A wait at level `n` is allowed while every payment still owed goes to a cell above `n`. -/
theorem mayWait (c : Dev nD) (sm : SemLoc sig) (n : ℕ) (l : List (Bool × Fin 17)) (hn : lvk (cellIx sm) ≤ n) (hl : ∀ p ∈ l, n < lvk p.2.val) :
    (levAts L lv : sProp 𝕄) ⊢ MayWait (c : Thread nD τ) sm () (owed c l) :=
  MayOwe.of_cut (L := L) (lev := lv) n (fun p hp => by rw [Finset.mem_singleton.mp hp, L_tc]; exact Finset.mem_singleton_self _)
    (fun g u hg => by obtain ⟨p, -, rfl⟩ := owed_pos l hg; exact Finset.mem_singleton_self _)
    (fun p hp => by rw [Finset.mem_singleton.mp hp]; exact hn)
    (fun g u hg => by
      obtain ⟨p, hp, rfl⟩ := owed_pos l hg
      show n < lvk (cellIx (csem p.2))
      rw [cellIx_csem]; exact hl p hp)

end Cert.KernelIdeal.Work

end
-- ==== Proof.Ideal.Steps.lean ====
/-
The kernel's steps under the protocol: a signal to a neighbour, a wait, a remote copy, and the loads and stores at a block of rows or a slot.
Each lemma is one operation at the head of a program, with what it takes and what it leaves.
-/
module

public import proofs.«01_k».proof.Proof.Ideal.Protocol

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The invariants, and what a device owes -/

/-- Every cell's invariant, under the names `K` the launch allocates them at, and that every cell has reached round 0. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

theorem inv_at (K : Dev nD × Fin 17 → ℕ) (ck : Dev nD × Fin 17) : records m K ⊢ cellInv ER (Rd m) (K ck) (kcell ck) := by
  unfold records
  exact sep_elim_left.trans (bigSep_elim (Finset.mem_univ ck))
theorem reached_at (K : Dev nD × Fin 17 → ℕ) (ck : Dev nD × Fin 17) : records m K ⊢ reached ER (kcell ck) 0 := by
  unfold records
  exact sep_elim_right.trans (bigSep_elim (Finset.mem_univ ck))

/-- Device `c` owes the payments `l`. -/
def owing (c : Dev nD) (l : List (Bool × Fin 17)) : sProp 𝕄 := iprop(∃ W, owes (c : Thread nD τ) (owed c l) W)

/-! ## A cell's pieces: the duty `d`'s token, the position at its round, the credit for one wait, and its counter at zero -/

abbrev tok (c : Dev nD) (j : Fin 17) (d : Bool) : sProp 𝕄 := dutyTok ER (kcell (c, j)) 0 d
abbrev pos (c : Dev nD) (j : Fin 17) : sProp 𝕄 := atPos ER (kcell (c, j)) 0 ∅ 0
abbrev crd (c : Dev nD) (j : Fin 17) : sProp 𝕄 := cred (tallyAt (kcell (c, j)) () (amt j.val))
abbrev done (c : Dev nD) (j : Fin 17) : sProp 𝕄 := semVal (kcell (c, j)) 0

/-! ## Signals and waits -/

variable (K : Dev nD × Fin 17 → ℕ) (c : Dev nD)

/-- A signal to the neighbour on side `b`, with the places it hands over. -/
theorem step_signal (b : Bool) (l : List (Bool × Fin 17)) (p : Dev nD) (hp : p = nb c b) (n : Dev nD) (hn : n = p) {k' : ℕ} (hk : k' = 1)
    {α : Type} {Q : α → sProp 𝕄} {k : PUnit → Prog (TpuEff nD τ sig (Elt F) Λ₀ .tc) α} :
    iprop(records m K ∗ owing c ((b, 0) :: l) ∗ dutyTok ER (kcell (p, 0)) 0 (!b) ∗ barPay p (!b))
      ⊢ iprop((owing c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS k') k) Q) := by
  subst hn; subst hp; subst hk
  unfold owing
  have hpay : barPay (nb c b) (!b) ⊢ (Rd m).payload ((nb c b : Thread nD τ), .reg barS) 0 (!b) :=
    Entails.of_eq (payload_bar m (nb c b) (!b)).symm
  iintro ⟨#HR, ⟨%W, HO⟩, Ht, Hp⟩ Hk
  iapply (Rounds.wp_signal 𝒱₀ ER (Rd m) (c : Thread nD τ) none (dst := (nb c b : Thread nD τ)) (sem := barS) (κ := K (nb c b, 0)) (r := 0)
      (d := !b) (by rw [show (((nb c b : Thread nD τ)), SemLoc.reg barS) = kcell (nb c b, 0) from rfl, duties_bar]; exact Finset.mem_univ _)
      (amount_eq m (nb c b) 0 (!b)) () (owed c l) rfl (W := W)) $$ [HO Ht Hp]
  · isplitr; · iapply (inv_at m K (nb c b, 0)); iexact HR
    isplitl [HO]; · iexact HO
    isplitl [Ht]; · iexact Ht
    isplitl [Hp]
    · iapply hpay; iexact Hp
    iapply (reached_at m K (nb c b, 0)); iexact HR
  iintro HO
  iapply Hk
  iexists W; iexact HO

/-- The wait for both signals: the places on both neighbours, and the barrier's cell closed. -/
theorem step_wait_bar (l : List (Bool × Fin 17)) (hl : ∀ p ∈ l, 1 < lvk p.2.val) {k' : ℕ} (hk : k' = 2)
    {α : Type} {Q : α → sProp 𝕄} {k : PUnit → Prog (TpuEff nD τ sig (Elt F) Λ₀ .tc) α} :
    iprop(records m K ∗ levAts L lv ∗ owing c l ∗ atPos ER (kcell (c, 0)) 0 ∅ 0 ∗ cred (tallyAt (kcell (c, 0)) () 2))
      ⊢ iprop(((owing c l ∗ semVal (kcell (c, 0)) 0 ∗ places (prv c) 1 c (hiRows (nxt c)) ∗ places (nxt c) 0 c (loRows (prv c)))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk
  unfold owing
  iintro ⟨#HR, #Hlev, ⟨%W, HO⟩, Hat, Hc⟩ Hk
  iapply (Rounds.wp_wait_rest_token 𝒱₀ ER (Rd m) (c : Thread nD τ) none (κ := K (c, 0)) (sm := .reg barS)
      (wpE_semWait_eq 𝒱₀ (c : Thread nD τ) none Set.univ) (Set.mem_univ _) () (O := owed c l) (W := W) (R := 0) (m := 0) (T := ∅)
      ((Nat.zero_add 2).trans (expect_bar m c).symm)) $$ [Hc HO Hat]
  · isplitr; · iapply (inv_at m K (c, 0)); iexact HR
    isplitl [Hc]; · iexact Hc
    isplitl [HO]; · iexact HO
    isplitr; · iapply (mayWait c (.reg barS) 1 l (by decide) hl); iexact Hlev
    iexact Hat
  iintro ⟨HO, Hat, -, Hpay⟩
  imod (Rounds.cell_close ER (Rd m) (Set.mem_univ (K (c, 0))) (fun h => h) (R := 0 + 1) (duties_later m (kcell (c, 0)))) $$ [Hat] with Hz
  · isplitr; · iapply (inv_at m K (c, 0)); iexact HR
    iexact Hat
  iapply Hk
  isplitl [HO]; · iexists _; iexact HO
  isplitl [Hz]; · iexact Hz
  iapply (Entails.of_eq (rest_bar m c)); iexact Hpay

/-- A wait on the DMA cell `j`: its payload, and the cell closed. -/
theorem step_wait (j : Fin 17) (hj : j ≠ 0) (l : List (Bool × Fin 17)) (hl : ∀ p ∈ l, lvk j.val < lvk p.2.val)
    {sm : DmaSem sig} (hs : SemLoc.dma sm = csem j)
    {sp sp' : Space} {s s' : Shape} {e e' : EltTy} {src : Memref sig .tc sp' s' e'} {dst : Memref sig .tc sp s e}
    {hsrc : src.view.WordExact} {hdst : dst.view.WordExact} (ha : dst.view.dmaCredit = amt j.val) (P : sProp 𝕄) (hP : dmaPay m c j.val = P)
    {α : Type} {Q : α → sProp 𝕄} {k : PUnit → Prog (TpuEff nD τ sig (Elt F) Λ₀ .tc) α} :
    iprop(records m K ∗ levAts L lv ∗ owing c l ∗ atPos ER (kcell (c, j)) 0 ∅ 0 ∗ cred (tallyAt (kcell (c, j)) () (amt j.val)))
      ⊢ iprop(((owing c l ∗ semVal (kcell (c, j)) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  have e0 : kcell (c, j) = ((c : Thread nD τ), SemLoc.dma sm) := by show ((c : Thread nD τ), csem j) = _; rw [hs]
  have hex := expect_dma m c j hj
  have hrest := (rest_dma m c j hj).trans hP
  have hinv := inv_at m K (c, j)
  rw [e0] at hex hrest hinv ⊢
  rw [← ha] at hex ⊢
  unfold owing
  iintro ⟨#HR, #Hlev, ⟨%W, HO⟩, Hat, Hc⟩ Hk
  iapply (Rounds.wp_wait_rest_token 𝒱₀ ER (Rd m) (c : Thread nD τ) none (κ := K (c, j)) (sm := .dma sm)
      (wpE_waitDma2_eq 𝒱₀ (c : Thread nD τ) none Set.univ) (Set.mem_univ _) () (O := owed c l) (W := W) (R := 0) (m := 0) (T := ∅)
      ((Nat.zero_add _).trans hex.symm)) $$ [Hc HO Hat]
  · isplitr; · iapply hinv; iexact HR
    isplitl [Hc]; · iexact Hc
    isplitl [HO]; · iexact HO
    isplitr; · iapply (mayWait c (.dma sm) (lvk j.val) l (by rw [hs, cellIx_csem]) hl); iexact Hlev
    iexact Hat
  iintro ⟨HO, Hat, -, Hpay⟩
  imod (Rounds.cell_close ER (Rd m) (Set.mem_univ (K (c, j))) (fun h => h) (R := 0 + 1) (duties_later m ((c : Thread nD τ), SemLoc.dma sm))) $$ [Hat] with Hz
  · isplitr; · iapply hinv; iexact HR
    iexact Hat
  iapply Hk
  isplitl [HO]; · iexists _; iexact HO
  isplitl [Hz]; · iexact Hz
  iapply (Entails.of_eq hrest); iexact Hpay

/-! ## Remote copies -/

/-- A copy to the neighbour on side `b`, departing through cell `jS` here and arriving through cell `jR` there. -/
theorem step_send (b : Bool) (jS jR : Fin 17) (hjS : jS ≠ 0) (hjR : jR ≠ 0) (hj : amt jS.val = amt jR.val) (l : List (Bool × Fin 17))
    (n : Dev nD) (hn : n = nb c b) {sS sR : DmaSem sig} (hsS : SemLoc.dma sS = csem jS) (hsR : SemLoc.dma sR = csem jR)
    {sp sp' : Space} {s : Shape} {e : EltTy} {src : Memref sig .tc sp s e} {dst : Memref sig (Dev.tc n : Thread nD τ).2.kind sp' s e}
    {hsc : dst.view.ref.isScScratch = false} {hsrc : src.view.WordExact} {hdst : dst.view.WordExact}
    {hsem : DmaTarget.Typed sp (.dma sR) (.remote (Dev.tc n : Thread nD τ) dst (.dma sS) hsc)} (ha : dst.view.dmaCredit = amt jR.val)
    {q : PosShare TreeShare} {fs : Buf (Elt F) (src.view.loc (c : Thread nD τ))} {fd : Buf (Elt F) (dst.view.loc (n : Thread nD τ))}
    (hp₁ : (src.view.loc (c : Thread nD τ) ↦[src.view.set]{q} fs : sProp 𝕄) ⊢ dmaPay m c jS.val)
    (hp₂ : (dst.view.loc (n : Thread nD τ) ↦[dst.view.set]{fullShare} (dst.view.write (Elt F) fd (src.view.read (Elt F) fs) Finset.univ) : sProp 𝕄)
      ⊢ dmaPay m n jR.val)
    {α : Type} {Q : α → sProp 𝕄} {k : PUnit → Prog (TpuEff nD τ sig (Elt F) Λ₀ .tc) α} :
    iprop(records m K ∗ owing c ((b, jR) :: l) ∗ (src.view.loc (c : Thread nD τ) ↦[src.view.set]{q} fs)
        ∗ (dst.view.loc (n : Thread nD τ) ↦[dst.view.set]{fullShare} fd)
        ∗ dutyTok ER (kcell (c, jS)) 0 false ∗ dutyTok ER (kcell (nb c b, jR)) 0 false)
      ⊢ iprop(((cred (tallyAt (kcell (c, jS)) () (amt jS.val)) ∗ owing c l)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  have e1 : kcell (c, jS) = ((c : Thread nD τ), SemLoc.dma sS) := by show ((c : Thread nD τ), csem jS) = _; rw [hsS]
  have e2 : kcell (nb c b, jR) = ((nb c b : Thread nD τ), SemLoc.dma sR) := by show ((nb c b : Thread nD τ), csem jR) = _; rw [hsR]
  have hd1 := duties_dma m c jS hjS
  have hd2 := duties_dma m (nb c b) jR hjR
  have ha1 := amount_eq m c jS false
  have ha2 := amount_eq m (nb c b) jR false
  have hpay1 := payload_dma m c jS hjS false
  have hpay2 := payload_dma m (nb c b) jR hjR false
  have hi1 := inv_at m K (c, jS)
  have hi2 := inv_at m K (nb c b, jR)
  have hr1 := reached_at m K (c, jS)
  have hr2 := reached_at m K (nb c b, jR)
  have hO : owed c ((b, jR) :: l) = owed c l + tallyAt ((nb c b : Thread nD τ), SemLoc.dma sR) () (amt jR.val) := by
    show owed c l + tallyAt (kcell (nb c b, jR)) () (amt jR.val) = _
    rw [e2]
  rw [e1] at hd1 ha1 hpay1 hi1 hr1 ⊢
  rw [e2] at hd2 ha2 hpay2 hi2 hr2 ⊢
  rw [hj] at ha1 ⊢
  unfold owing
  iintro ⟨#HR, ⟨%W, HO⟩, Hs, Hd, Ht1, Ht2⟩ Hk
  iapply (Rounds.wp_send_pointsTo 𝒱₀ ER (Rd m) (c : Thread nD τ) none (κ₁ := K (c, jS)) (κ₂ := K (nb c b, jR))
    (r₁ := 0) (r₂ := 0) (d₁ := false) (d₂ := false) (fd := fd)
    (by rw [hd1]; exact Finset.mem_singleton_self _) (by rw [hd2]; exact Finset.mem_singleton_self _)
    () () (amt jR.val) (show dst.view.amount (.dma sR) = amt jR.val from ha) ha1 ha2 (owed c l) hO (W := W)
    (hp₁.trans (Entails.of_eq hpay1.symm)) (hp₂.trans (Entails.of_eq hpay2.symm))) $$ [HO Hs Hd Ht1 Ht2]
  · isplitr; · iapply hi1; iexact HR
    isplitr; · iapply hi2; iexact HR
    isplitl [Hs]; · iexact Hs
    isplitl [Hd]; · iexact Hd
    isplitl [HO]; · iexact HO
    isplitl [Ht1]; · iexact Ht1
    isplitr; · iapply hr1; iexact HR
    isplitl [Ht2]; · iexact Ht2
    iapply hr2; iexact HR
  iintro ⟨Hc, HO⟩
  iapply Hk
  isplitl [Hc]; · iexact Hc
  iexists W; iexact HO

end Cert.KernelIdeal.Work

end
-- ==== Proof.Ideal.Moves.lean ====
/-
The kernel's loads, stores and remote copies at a band of rows or at a slot: which elements each takes, and what it reads, writes or lands.
-/
module

public import proofs.«01_k».proof.Proof.Ideal.Steps

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- The staged operands of device `c`. -/
def lhsPts (f : (cc0_stg0_0 : Ref sig .tc).ty.Contents (Elt F)) : sProp 𝕄 := (((c : Thread nD τ).loc cc0_stg0_0) ↦{fullShare} f)
def rhsPts (f : (cc0_stg1_0 : Ref sig .tc).ty.Contents (Elt F)) : sProp 𝕄 := (((c : Thread nD τ).loc cc0_stg1_0) ↦{fullShare} f)

/-- A program run on device `c`. -/
abbrev runs {α : Type} (k : Prog (TpuEff nD τ sig (Elt F) Λ₀ .tc) α) (Q : α → sProp 𝕄) : sProp 𝕄 :=
  wp frame (wpE (defs₀ (F := F)) 𝒱₀ (c : Thread nD τ) none) Set.univ k Q

/-! ## A chunk as its two halves, and two shares of it -/

theorem rows_eq (q : Dev nD) : rows q = loRows q ∪ hiRows q := band_split (256 * q.val) 128 128
theorem halves_disjoint (q : Dev nD) : Disjoint (loRows q) (hiRows q) := band_disjoint (by omega)

theorem acc_rows (q : Dev nD) (sh : PosShare TreeShare) (f : (cc0_scratch0 : Ref sig .tc).ty.Contents (Elt F)) :
    accPts c (rows q) sh f ⊣⊢ iprop(accPts c (loRows q) sh f ∗ accPts c (hiRows q) sh f) := by
  unfold accPts; rw [rows_eq]; exact pointsTo_union (halves_disjoint q)
theorem out_rows (q : Dev nD) (sh : PosShare TreeShare) (f : (cc0_stg2_0 : Ref sig .tc).ty.Contents (Elt F)) :
    outPts c (rows q) sh f ⊣⊢ iprop(outPts c (loRows q) sh f ∗ outPts c (hiRows q) sh f) := by
  unfold outPts; rw [rows_eq]; exact pointsTo_union (halves_disjoint q)
theorem out_shares (S : Finset S1024x1024.Idx) (f : (cc0_stg2_0 : Ref sig .tc).ty.Contents (Elt F)) :
    outPts c S fullShare f ⊣⊢ iprop(outPts c S fullShare.left f ∗ outPts c S fullShare.right f) := by
  unfold outPts; exact pointsTo_share (PosShare.mem_left_op_right fullShare)

/-! ## Loads -/

theorem load_rhs {inb} {hl} {f : (cc0_stg1_0 : Ref sig .tc).ty.Contents (Elt F)} {α : Type} {Q : α → sProp 𝕄} {k : Vec F S512x1024 .bf16 → Prog (TpuEff nD τ sig (Elt F) Λ₀ .tc) α} :
    rhsPts c f ⊢ iprop((rhsPts c f -∗ runs c (k f) Q)
      -∗ runs c (.op (.load (Memref.whole cc0_stg1_0) (Rect.unit (s := S512x1024) ![0, 0] S512x1024.size inb).toLoadRect hl) k) Q) := by
  have e : (Memref.whole cc0_stg1_0 : Memref sig .tc .vmem S512x1024 .bf16).view.readAt (Elt F) (Rect.unit (s := S512x1024) ![0, 0] S512x1024.size inb).toLoadRect f = f :=
    Memref.readAt_unit_zero (Elt F) cc0_stg1_0 (funext fun a => by fin_cases a <;> rfl) _ f
  have h := wp_load (Q := Q) (k := k) (hl := hl) (defs := defs₀ (F := F)) (Name := ℕ) (U := UU) (Lvl := ℕ) (Ix := Unit) (Γ := .empty) 𝒱₀ (c : Thread nD τ) none Set.univ
    (m := Memref.whole cc0_stg1_0) (r := (Rect.unit (s := S512x1024) ![0, 0] S512x1024.size inb).toLoadRect) (q := fullShare) (f := f) (Finset.subset_univ _)
  rw [e] at h
  exact h

theorem load_lhs {size off : Fin 2 → ℕ} {inb} {o : ℕ} (ho : off = ![o, 0]) {hl} {f : (cc0_stg0_0 : Ref sig .tc).ty.Contents (Elt F)}
    {α : Type} {Q : α → sProp 𝕄} {k : Vec F ⟨2, size⟩ .bf16 → Prog (TpuEff nD τ sig (Elt F) Λ₀ .tc) α} :
    lhsPts c f ⊢ iprop((lhsPts c f -∗ runs c (k fun x => f (atX (o + (x 0).val) (x 1).val)) Q)
      -∗ runs c (.op (.load (Memref.whole cc0_stg0_0) (Rect.unit (s := S1024x512) off size inb).toLoadRect hl) k) Q) := by
  have h := wp_load (Q := Q) (k := k) (hl := hl) (defs := defs₀ (F := F)) (Name := ℕ) (U := UU) (Lvl := ℕ) (Ix := Unit) (Γ := .empty) 𝒱₀ (c : Thread nD τ) none Set.univ
    (m := Memref.whole cc0_stg0_0) (r := (Rect.unit (s := S1024x512) off size inb).toLoadRect) (q := fullShare) (f := f) (Finset.subset_univ _)
  have e : (Memref.whole cc0_stg0_0 : Memref sig .tc .vmem S1024x512 .bf16).view.readAt (Elt F) (Rect.unit (s := S1024x512) off size inb).toLoadRect f
      = fun x => f (atX (o + (x 0).val) (x 1).val) := funext fun x => congrArg f (emb_X (inb := inb) ho x)
  rw [e] at h
  exact h

theorem load_acc {size off : Fin 2 → ℕ} {inb} {o n : ℕ} (hs : size = ![n, 1024]) (ho : off = ![o, 0]) {S : Finset S1024x1024.Idx} (hS : band o n ⊆ S) {hl} {q}
    {f : (cc0_scratch0 : Ref sig .tc).ty.Contents (Elt F)} {α : Type} {Q : α → sProp 𝕄} {k : Vec F ⟨2, size⟩ .bf16 → Prog (TpuEff nD τ sig (Elt F) Λ₀ .tc) α} :
    accPts c S q f ⊢ iprop((accPts c S q f -∗ runs c (k fun x => f (atA (o + (x 0).val) (x 1).val)) Q)
      -∗ runs c (.op (.load (Memref.whole cc0_scratch0) (Rect.unit (s := S1024x1024) off size inb).toLoadRect hl) k) Q) := by
  have h := wp_load_rect (Q := Q) (k := k) (hl := hl) (defs := defs₀ (F := F)) (Name := ℕ) (U := UU) (Lvl := ℕ) (Ix := Unit) (Γ := .empty) 𝒱₀ (c : Thread nD τ) none Set.univ
    (m := Memref.whole cc0_scratch0) (r := Rect.unit (s := S1024x1024) off size inb) (q := q) (f := f) (S := S)
    (by rw [View.set_slice_whole]; exact (set_rows (inb := inb) hs ho).trans_subset hS)
  have e : ((Memref.whole cc0_scratch0 : Memref sig .tc .vmem S1024x1024 .bf16).access (Rect.unit (s := S1024x1024) off size inb) : View sig .tc _ _ _).read (Elt F) f
      = fun x => f (atA (o + (x 0).val) (x 1).val) := funext fun x => congrArg f (emb_A (inb := inb) ho x)
  rw [e] at h
  exact h

theorem load_out {size off : Fin 2 → ℕ} {inb} {o n : ℕ} (hs : size = ![n, 1024]) (ho : off = ![o, 0]) {S : Finset S1024x1024.Idx} (hS : band o n ⊆ S) {hl} {q}
    {f : (cc0_stg2_0 : Ref sig .tc).ty.Contents (Elt F)} {α : Type} {Q : α → sProp 𝕄} {k : Vec F ⟨2, size⟩ .bf16 → Prog (TpuEff nD τ sig (Elt F) Λ₀ .tc) α} :
    outPts c S q f ⊢ iprop((outPts c S q f -∗ runs c (k fun x => f (atA (o + (x 0).val) (x 1).val)) Q)
      -∗ runs c (.op (.load (Memref.whole cc0_stg2_0) (Rect.unit (s := S1024x1024) off size inb).toLoadRect hl) k) Q) := by
  have h := wp_load_rect (Q := Q) (k := k) (hl := hl) (defs := defs₀ (F := F)) (Name := ℕ) (U := UU) (Lvl := ℕ) (Ix := Unit) (Γ := .empty) 𝒱₀ (c : Thread nD τ) none Set.univ
    (m := Memref.whole cc0_stg2_0) (r := Rect.unit (s := S1024x1024) off size inb) (q := q) (f := f) (S := S)
    (by rw [View.set_slice_whole]; exact (set_rows (inb := inb) hs ho).trans_subset hS)
  have e : ((Memref.whole cc0_stg2_0 : Memref sig .tc .vmem S1024x1024 .bf16).access (Rect.unit (s := S1024x1024) off size inb) : View sig .tc _ _ _).read (Elt F) f
      = fun x => f (atA (o + (x 0).val) (x 1).val) := funext fun x => congrArg f (emb_A (inb := inb) ho x)
  rw [e] at h
  exact h

theorem load_half {s : ℕ} {inb} {hl} {f : (cc0_scratch1 : Ref sig .tc).ty.Contents (Elt F)}
    {α : Type} {Q : α → sProp 𝕄} {k : Vec F S1x128x1024 .bf16 → Prog (TpuEff nD τ sig (Elt F) Λ₀ .tc) α} :
    halfPts c (slotH s) f ⊢ iprop((halfPts c (slotH s) f -∗ runs c (k fun x => f (atH s (x 1).val (x 2).val)) Q)
      -∗ runs c (.op (.load (Memref.whole cc0_scratch1) (Rect.unit (s := S2x128x1024) ![s, 0, 0] S1x128x1024.size inb).toLoadRect hl) k) Q) := by
  have h := wp_load_rect (Q := Q) (k := k) (hl := hl) (defs := defs₀ (F := F)) (Name := ℕ) (U := UU) (Lvl := ℕ) (Ix := Unit) (Γ := .empty) 𝒱₀ (c : Thread nD τ) none Set.univ
    (m := Memref.whole cc0_scratch1) (r := Rect.unit (s := S2x128x1024) ![s, 0, 0] S1x128x1024.size inb) (q := fullShare) (f := f) (S := slotH s)
    (by rw [View.set_slice_whole]; exact (set_slotH (inb := inb)).subset)
  have e : ((Memref.whole cc0_scratch1 : Memref sig .tc .vmem S2x128x1024 .bf16).access (Rect.unit (s := S2x128x1024) ![s, 0, 0] S1x128x1024.size inb) : View sig .tc _ _ _).read (Elt F) f
      = fun x => f (atH s (x 1).val (x 2).val) := funext fun x => congrArg f (emb_H (inb := inb) x)
  rw [e] at h
  exact h

theorem load_full {s : ℕ} {inb} {hl} {f : (cc0_scratch2 : Ref sig .tc).ty.Contents (Elt F)}
    {α : Type} {Q : α → sProp 𝕄} {k : Vec F S1x256x1024 .bf16 → Prog (TpuEff nD τ sig (Elt F) Λ₀ .tc) α} :
    fullPts c (slotF s) f ⊢ iprop((fullPts c (slotF s) f -∗ runs c (k fun x => f (atF s (x 1).val (x 2).val)) Q)
      -∗ runs c (.op (.load (Memref.whole cc0_scratch2) (Rect.unit (s := S2x256x1024) ![s, 0, 0] S1x256x1024.size inb).toLoadRect hl) k) Q) := by
  have h := wp_load_rect (Q := Q) (k := k) (hl := hl) (defs := defs₀ (F := F)) (Name := ℕ) (U := UU) (Lvl := ℕ) (Ix := Unit) (Γ := .empty) 𝒱₀ (c : Thread nD τ) none Set.univ
    (m := Memref.whole cc0_scratch2) (r := Rect.unit (s := S2x256x1024) ![s, 0, 0] S1x256x1024.size inb) (q := fullShare) (f := f) (S := slotF s)
    (by rw [View.set_slice_whole]; exact (set_slotF (inb := inb)).subset)
  have e : ((Memref.whole cc0_scratch2 : Memref sig .tc .vmem S2x256x1024 .bf16).access (Rect.unit (s := S2x256x1024) ![s, 0, 0] S1x256x1024.size inb) : View sig .tc _ _ _).read (Elt F) f
      = fun x => f (atF s (x 1).val (x 2).val) := funext fun x => congrArg f (emb_F (inb := inb) x)
  rw [e] at h
  exact h

/-! ## Stores: `g` is what the payload says on the band and the old contents elsewhere -/

theorem store_acc {size off : Fin 2 → ℕ} {inb} {o n : ℕ} (hs : size = ![n, 1024]) (ho : off = ![o, 0]) {S : Finset S1024x1024.Idx} (hS : band o n ⊆ S) {hx hm}
    {f : (cc0_scratch0 : Ref sig .tc).ty.Contents (Elt F)} {w : Vec F ⟨2, size⟩ .bf16} (g : (cc0_scratch0 : Ref sig .tc).ty.Contents (Elt F))
    (h1 : ∀ x, w x = g (atA (o + (x 0).val) (x 1).val)) (h2 : ∀ i ∈ S, i ∉ band o n → f i = g i)
    {α : Type} {Q : α → sProp 𝕄} {k : PUnit → Prog (TpuEff nD τ sig (Elt F) Λ₀ .tc) α} :
    accPts c S fullShare f ⊢ iprop((accPts c S fullShare g -∗ runs c (k ⟨⟩) Q)
      -∗ runs c (.op (.store (Memref.whole cc0_scratch0) (Rect.unit (s := S1024x1024) off size inb) w Finset.univ hx hm) k) Q) := by
  have h := wp_store (Q := Q) (k := k) (w := w) (hx := hx) (hm := hm) (defs := defs₀ (F := F)) (Name := ℕ) (U := UU) (Lvl := ℕ) (Ix := Unit) (Γ := .empty) 𝒱₀ (c : Thread nD τ) none Set.univ
    (m := Memref.whole cc0_scratch0) (r := Rect.unit (s := S1024x1024) off size inb) (f := f) (S := S)
    (by rw [View.setOn_univ, View.set_slice_whole]; exact (set_rows (inb := inb) hs ho).trans_subset hS)
  have e : (((c : Thread nD τ).loc cc0_scratch0) ↦[S]{fullShare} (((Memref.whole cc0_scratch0 : Memref sig .tc .vmem S1024x1024 .bf16).access
        (Rect.unit (s := S1024x1024) off size inb) : View sig .tc _ _ _).write (Elt F) f w Finset.univ) : sProp 𝕄) = accPts c S fullShare g := by
    unfold accPts
    refine pointsTo_congr (store_eq cc0_scratch0 (Rect.unit (s := S1024x1024) off size inb) (fun x => (h1 x).trans (congrArg g (emb_A (inb := inb) ho x).symm)) fun i hi hn => h2 i hi ?_)
    rw [← set_rows (inb := inb) hs ho]; exact hn
  exact h.trans (wand_mono_left (wand_mono_left (Entails.of_eq e)))

theorem store_out {size off : Fin 2 → ℕ} {inb} {o n : ℕ} (hs : size = ![n, 1024]) (ho : off = ![o, 0]) {S : Finset S1024x1024.Idx} (hS : band o n ⊆ S) {hx hm}
    {f : (cc0_stg2_0 : Ref sig .tc).ty.Contents (Elt F)} {w : Vec F ⟨2, size⟩ .bf16} (g : (cc0_stg2_0 : Ref sig .tc).ty.Contents (Elt F))
    (h1 : ∀ x, w x = g (atA (o + (x 0).val) (x 1).val)) (h2 : ∀ i ∈ S, i ∉ band o n → f i = g i)
    {α : Type} {Q : α → sProp 𝕄} {k : PUnit → Prog (TpuEff nD τ sig (Elt F) Λ₀ .tc) α} :
    outPts c S fullShare f ⊢ iprop((outPts c S fullShare g -∗ runs c (k ⟨⟩) Q)
      -∗ runs c (.op (.store (Memref.whole cc0_stg2_0) (Rect.unit (s := S1024x1024) off size inb) w Finset.univ hx hm) k) Q) := by
  have h := wp_store (Q := Q) (k := k) (w := w) (hx := hx) (hm := hm) (defs := defs₀ (F := F)) (Name := ℕ) (U := UU) (Lvl := ℕ) (Ix := Unit) (Γ := .empty) 𝒱₀ (c : Thread nD τ) none Set.univ
    (m := Memref.whole cc0_stg2_0) (r := Rect.unit (s := S1024x1024) off size inb) (f := f) (S := S)
    (by rw [View.setOn_univ, View.set_slice_whole]; exact (set_rows (inb := inb) hs ho).trans_subset hS)
  have e : (((c : Thread nD τ).loc cc0_stg2_0) ↦[S]{fullShare} (((Memref.whole cc0_stg2_0 : Memref sig .tc .vmem S1024x1024 .bf16).access
        (Rect.unit (s := S1024x1024) off size inb) : View sig .tc _ _ _).write (Elt F) f w Finset.univ) : sProp 𝕄) = outPts c S fullShare g := by
    unfold outPts
    refine pointsTo_congr (store_eq cc0_stg2_0 (Rect.unit (s := S1024x1024) off size inb) (fun x => (h1 x).trans (congrArg g (emb_A (inb := inb) ho x).symm)) fun i hi hn => h2 i hi ?_)
    rw [← set_rows (inb := inb) hs ho]; exact hn
  exact h.trans (wand_mono_left (wand_mono_left (Entails.of_eq e)))

/-! ## Remote copies: what the receiver holds at the place is what the sender's band holds -/

/-- The views a copy goes through: a band of the accumulator or of the result, a slot of a landing buffer. -/
abbrev accM {size : Fin 2 → ℕ} (off : Fin 2 → ℕ) (inb : ∀ a, off a + size a ≤ S1024x1024.size a) : Memref sig .tc .vmem ⟨2, size⟩ .bf16 :=
  (Memref.whole cc0_scratch0).slice (Rect.unit (s := S1024x1024) off size inb) (fun _ => rfl)
abbrev outM {size : Fin 2 → ℕ} (off : Fin 2 → ℕ) (inb : ∀ a, off a + size a ≤ S1024x1024.size a) : Memref sig .tc .vmem ⟨2, size⟩ .bf16 :=
  (Memref.whole cc0_stg2_0).slice (Rect.unit (s := S1024x1024) off size inb) (fun _ => rfl)
abbrev halfM (s : ℕ) (inb : ∀ a, (![s, 0, 0] : Fin 3 → ℕ) a + S1x128x1024.size a ≤ S2x128x1024.size a) (hq : S1x128x1024.Squeezes S128x1024) : Memref sig .tc .vmem S128x1024 .bf16 :=
  ((Memref.whole cc0_scratch1).slice (Rect.unit (s := S2x128x1024) ![s, 0, 0] S1x128x1024.size inb) (fun _ => rfl) : Memref sig .tc .vmem S1x128x1024 .bf16).squeeze S128x1024 hq
abbrev fullM (s : ℕ) (inb : ∀ a, (![s, 0, 0] : Fin 3 → ℕ) a + S1x256x1024.size a ≤ S2x256x1024.size a) (hq : S1x256x1024.Squeezes S256x1024) : Memref sig .tc .vmem S256x1024 .bf16 :=
  ((Memref.whole cc0_scratch2).slice (Rect.unit (s := S2x256x1024) ![s, 0, 0] S1x256x1024.size inb) (fun _ => rfl) : Memref sig .tc .vmem S1x256x1024 .bf16).squeeze S256x1024 hq

section Views
variable {size off : Fin 2 → ℕ} {inb : ∀ a, off a + size a ≤ S1024x1024.size a} {o n s : ℕ}
  {inbH : ∀ a, (![s, 0, 0] : Fin 3 → ℕ) a + S1x128x1024.size a ≤ S2x128x1024.size a} {hqH : S1x128x1024.Squeezes S128x1024}
  {inbF : ∀ a, (![s, 0, 0] : Fin 3 → ℕ) a + S1x256x1024.size a ≤ S2x256x1024.size a} {hqF : S1x256x1024.Squeezes S256x1024}

/-- Their elements. -/
theorem accM_set (hs : size = ![n, 1024]) (ho : off = ![o, 0]) : (accM off inb).view.set = band o n :=
  (View.set_slice_whole _ _).trans (set_rows (inb := inb) hs ho)
theorem outM_set (hs : size = ![n, 1024]) (ho : off = ![o, 0]) : (outM off inb).view.set = band o n :=
  (View.set_slice_whole _ _).trans (set_rows (inb := inb) hs ho)
theorem halfM_set : (halfM s inbH hqH).view.set = slotH s := (View.set_reshape _ _).trans ((View.set_slice_whole _ _).trans (set_slotH (inb := inbH)))
theorem fullM_set : (fullM s inbF hqF).view.set = slotF s := (View.set_reshape _ _).trans ((View.set_slice_whole _ _).trans (set_slotF (inb := inbF)))

/-- What they read. -/
theorem accM_read (ho : off = ![o, 0]) (f : (cc0_scratch0 : Ref sig .tc).ty.Contents (Elt F)) :
    (accM off inb).view.read (Elt F) f = fun x => f (atA (o + (x 0).val) (x 1).val) := funext fun x => congrArg f (emb_A (inb := inb) ho x)
theorem outM_read (ho : off = ![o, 0]) (f : (cc0_stg2_0 : Ref sig .tc).ty.Contents (Elt F)) :
    (outM off inb).view.read (Elt F) f = fun x => f (atA (o + (x 0).val) (x 1).val) := funext fun x => congrArg f (emb_A (inb := inb) ho x)
theorem halfM_read (f : (cc0_scratch1 : Ref sig .tc).ty.Contents (Elt F)) :
    (halfM s inbH hqH).view.read (Elt F) f = fun x => f (atH s (x 0).val (x 1).val) := funext fun x => by
  have e := emb_H (k := s) (inb := inbH) (Shape.reshapeEquiv hqH.numel_eq x)
  rw [(squeeze_H hqH.numel_eq x).1, (squeeze_H hqH.numel_eq x).2] at e
  exact congrArg f e
theorem fullM_read (f : (cc0_scratch2 : Ref sig .tc).ty.Contents (Elt F)) :
    (fullM s inbF hqF).view.read (Elt F) f = fun x => f (atF s (x 0).val (x 1).val) := funext fun x => by
  have e := emb_F (k := s) (inb := inbF) (Shape.reshapeEquiv hqF.numel_eq x)
  rw [(squeeze_F hqF.numel_eq x).1, (squeeze_F hqF.numel_eq x).2] at e
  exact congrArg f e

/-- What a copy into them pays. -/
theorem halfM_credit : (halfM s inbH hqH).view.dmaCredit = halfN := rfl
theorem fullM_credit : (fullM s inbF hqF).view.dmaCredit = fullN := rfl
theorem accM_credit_half {off : Fin 2 → ℕ} {inb : ∀ a, off a + S128x1024.size a ≤ S1024x1024.size a} : (accM off inb).view.dmaCredit = halfN := rfl
theorem accM_credit_full {off : Fin 2 → ℕ} {inb : ∀ a, off a + S256x1024.size a ≤ S1024x1024.size a} : (accM off inb).view.dmaCredit = fullN := rfl
theorem outM_credit_half {off : Fin 2 → ℕ} {inb : ∀ a, off a + S128x1024.size a ≤ S1024x1024.size a} : (outM off inb).view.dmaCredit = halfN := rfl
theorem outM_credit_full {off : Fin 2 → ℕ} {inb : ∀ a, off a + S256x1024.size a ≤ S1024x1024.size a} : (outM off inb).view.dmaCredit = fullN := rfl

/-- A whole view's elements after what landed through it, when it reads as `g`. -/
theorem landed_half (d : Dev nD) {fd g : (cc0_scratch1 : Ref sig .tc).ty.Contents (Elt F)} {w : S128x1024.Idx → Elt F .bf16}
    (h : ∀ x, w x = g (atH s (x 0).val (x 1).val)) :
    (((halfM s inbH hqH).view.loc (d : Thread nD τ)) ↦[(halfM s inbH hqH).view.set]{fullShare} ((halfM s inbH hqH).view.write (Elt F) fd w Finset.univ) : sProp 𝕄)
      ⊢ halfPts d (slotH s) g := by
  have e : ∀ x, w x = (halfM s inbH hqH).view.read (Elt F) g x := fun x => (h x).trans (congrFun (halfM_read g).symm x)
  rw [pointsTo_congr (land_eq (halfM s inbH hqH).view (fd := fd) e), halfM_set]; exact Entails.refl _
theorem landed_full (d : Dev nD) {fd g : (cc0_scratch2 : Ref sig .tc).ty.Contents (Elt F)} {w : S256x1024.Idx → Elt F .bf16}
    (h : ∀ x, w x = g (atF s (x 0).val (x 1).val)) :
    (((fullM s inbF hqF).view.loc (d : Thread nD τ)) ↦[(fullM s inbF hqF).view.set]{fullShare} ((fullM s inbF hqF).view.write (Elt F) fd w Finset.univ) : sProp 𝕄)
      ⊢ fullPts d (slotF s) g := by
  have e : ∀ x, w x = (fullM s inbF hqF).view.read (Elt F) g x := fun x => (h x).trans (congrFun (fullM_read g).symm x)
  rw [pointsTo_congr (land_eq (fullM s inbF hqF).view (fd := fd) e), fullM_set]; exact Entails.refl _
theorem landed_out (hs : size = ![n, 1024]) (ho : off = ![o, 0]) (d : Dev nD) {fd g : (cc0_stg2_0 : Ref sig .tc).ty.Contents (Elt F)} {w : (⟨2, size⟩ : Shape).Idx → Elt F .bf16}
    (h : ∀ x, w x = g (atA (o + (x 0).val) (x 1).val)) :
    (((outM off inb).view.loc (d : Thread nD τ)) ↦[(outM off inb).view.set]{fullShare} ((outM off inb).view.write (Elt F) fd w Finset.univ) : sProp 𝕄)
      ⊢ outPts d (band o n) fullShare g := by
  have e : ∀ x, w x = (outM off inb).view.read (Elt F) g x := fun x => (h x).trans (congrFun (outM_read (inb := inb) ho g).symm x)
  rw [pointsTo_congr (land_eq (outM off inb).view (fd := fd) e), outM_set hs ho]; exact Entails.refl _

end Views

section Sends
variable (b : Bool) (jS jR : Fin 17) (hjS : jS ≠ 0) (hjR : jR ≠ 0) (hj : amt jS.val = amt jR.val) (l : List (Bool × Fin 17))
  (p : Dev nD) (hp : p = nb c b) (n : Dev nD) (hn : n = p) {sS sR : DmaSem sig} (hsS : SemLoc.dma sS = csem jS) (hsR : SemLoc.dma sR = csem jR)
include hjS hjR hj hp hn hsS hsR

/-- Half a chunk into slot `s` of the neighbour's landing buffer. -/
theorem send_half {s o : ℕ} {off : Fin 2 → ℕ} {inb inb'} {hq} (ho : off = ![o, 0]) (ha : amt jR.val = halfN)
    {hsc hsrc hdst hsem} {f : (cc0_scratch0 : Ref sig .tc).ty.Contents (Elt F)} {fd : (cc0_scratch1 : Ref sig .tc).ty.Contents (Elt F)}
    (hp₁ : dmaPay m c jS.val = iprop(∃ f, accPts c (band o 128) fullShare f)) (hp₂ : dmaPay m p jR.val = halfPts p (slotH s) (halfAt m p))
    (hv : ∀ x : S128x1024.Idx, f (atA (o + (x 0).val) (x 1).val) = halfAt m p (atH s (x 0).val (x 1).val))
    {α : Type} {Q : α → sProp 𝕄} {k : PUnit → Prog (TpuEff nD τ sig (Elt F) Λ₀ .tc) α} :
    iprop(records m K ∗ owing c ((b, jR) :: l) ∗ accPts c (band o 128) fullShare f ∗ halfPts p (slotH s) fd
        ∗ dutyTok ER (kcell (c, jS)) 0 false ∗ dutyTok ER (kcell (p, jR)) 0 false)
      ⊢ iprop(((cred (tallyAt (kcell (c, jS)) () (amt jS.val)) ∗ owing c l) -∗ runs c (k ⟨⟩) Q)
          -∗ runs c (.op (.enqueueDma (accM (size := S128x1024.size) off inb) (.remote (Dev.tc n : Thread nD τ) (halfM s inb' hq) (.dma sS) hsc) (.dma sR) hsrc hdst hsem) k) Q) := by
  subst hn; subst hp
  have h := step_send m K c b jS jR hjS hjR hj l (nb c b) rfl hsS hsR (src := accM (size := S128x1024.size) off inb) (dst := halfM s inb' hq)
    (hsc := hsc) (hsrc := hsrc) (hdst := hdst) (hsem := hsem) (q := fullShare) (fs := f) (fd := fd) (Q := Q) (k := k) (ha.symm ▸ rfl)
    (by rw [hp₁, accM_set (n := 128) rfl ho]; exact exists_intro (Φ := fun f => accPts c (band o 128) fullShare f) f)
    (by rw [hp₂]; exact landed_half (nb c b) fun x => (congrFun (accM_read ho f) x).trans (hv x))
  rw [accM_set (n := 128) rfl ho, halfM_set] at h
  exact h

/-- A whole chunk into slot `s` of the neighbour's landing buffer. -/
theorem send_full {s o : ℕ} {off : Fin 2 → ℕ} {inb inb'} {hq} (ho : off = ![o, 0]) (ha : amt jR.val = fullN)
    {hsc hsrc hdst hsem} {f : (cc0_scratch0 : Ref sig .tc).ty.Contents (Elt F)} {fd : (cc0_scratch2 : Ref sig .tc).ty.Contents (Elt F)}
    (hp₁ : dmaPay m c jS.val = iprop(∃ f, accPts c (band o 256) fullShare f)) (hp₂ : dmaPay m p jR.val = fullPts p (slotF s) (fullAt m p))
    (hv : ∀ x : S256x1024.Idx, f (atA (o + (x 0).val) (x 1).val) = fullAt m p (atF s (x 0).val (x 1).val))
    {α : Type} {Q : α → sProp 𝕄} {k : PUnit → Prog (TpuEff nD τ sig (Elt F) Λ₀ .tc) α} :
    iprop(records m K ∗ owing c ((b, jR) :: l) ∗ accPts c (band o 256) fullShare f ∗ fullPts p (slotF s) fd
        ∗ dutyTok ER (kcell (c, jS)) 0 false ∗ dutyTok ER (kcell (p, jR)) 0 false)
      ⊢ iprop(((cred (tallyAt (kcell (c, jS)) () (amt jS.val)) ∗ owing c l) -∗ runs c (k ⟨⟩) Q)
          -∗ runs c (.op (.enqueueDma (accM (size := S256x1024.size) off inb) (.remote (Dev.tc n : Thread nD τ) (fullM s inb' hq) (.dma sS) hsc) (.dma sR) hsrc hdst hsem) k) Q) := by
  subst hn; subst hp
  have h := step_send m K c b jS jR hjS hjR hj l (nb c b) rfl hsS hsR (src := accM (size := S256x1024.size) off inb) (dst := fullM s inb' hq)
    (hsc := hsc) (hsrc := hsrc) (hdst := hdst) (hsem := hsem) (q := fullShare) (fs := f) (fd := fd) (Q := Q) (k := k) (ha.symm ▸ rfl)
    (by rw [hp₁, accM_set (n := 256) rfl ho]; exact exists_intro (Φ := fun f => accPts c (band o 256) fullShare f) f)
    (by rw [hp₂]; exact landed_full (nb c b) fun x => (congrFun (accM_read ho f) x).trans (hv x))
  rw [accM_set (n := 256) rfl ho, fullM_set] at h
  exact h

/-- A band of the finished result to the same rows of the neighbour's, from any share of it. -/
theorem send_out {o w : ℕ} {size off : Fin 2 → ℕ} {inb inb' : ∀ a, off a + size a ≤ S1024x1024.size a} (hs : size = ![w, 1024]) (ho : off = ![o, 0])
    (ha : (outM off inb').view.dmaCredit = amt jR.val)
    {hsc hsrc hdst hsem} {q : PosShare TreeShare} {fd : (cc0_stg2_0 : Ref sig .tc).ty.Contents (Elt F)}
    (hp₁ : dmaPay m c jS.val = outPts c (band o w) q (outAll m)) (hp₂ : dmaPay m p jR.val = outPts p (band o w) fullShare (outAll m))
    {α : Type} {Q : α → sProp 𝕄} {k : PUnit → Prog (TpuEff nD τ sig (Elt F) Λ₀ .tc) α} :
    iprop(records m K ∗ owing c ((b, jR) :: l) ∗ outPts c (band o w) q (outAll m) ∗ outPts p (band o w) fullShare fd
        ∗ dutyTok ER (kcell (c, jS)) 0 false ∗ dutyTok ER (kcell (p, jR)) 0 false)
      ⊢ iprop(((cred (tallyAt (kcell (c, jS)) () (amt jS.val)) ∗ owing c l) -∗ runs c (k ⟨⟩) Q)
          -∗ runs c (.op (.enqueueDma (outM off inb) (.remote (Dev.tc n : Thread nD τ) (outM off inb') (.dma sS) hsc) (.dma sR) hsrc hdst hsem) k) Q) := by
  subst hn; subst hp
  have h := step_send m K c b jS jR hjS hjR hj l (nb c b) rfl hsS hsR (src := outM off inb) (dst := outM off inb')
    (hsc := hsc) (hsrc := hsrc) (hdst := hdst) (hsem := hsem) (q := q) (fs := outAll m) (fd := fd) (Q := Q) (k := k) ha
    (by rw [hp₁, outM_set hs ho]; exact Entails.refl _)
    (by rw [hp₂]; exact landed_out hs ho (nb c b) fun x => congrFun (outM_read ho (outAll m)) x)
  rw [outM_set hs ho] at h
  exact h

end Sends

end Cert.KernelIdeal.Work

end
-- ==== Proof.Ideal.PartsA.lean ====
/-
The body part by part, first half: the barrier, the partial product, and the copies of chunks on their way to their owners.
Each theorem is one part of the kernel's body at the head of a program: what it takes of the protocol and of memory, and what it leaves.

-/
module

public import proofs.«01_k».proof.Proof.Ideal.Moves

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 17 → ℕ) (c : Dev nD)

/-- Going round the ring three times is going back once. -/
theorem nxt3 : nxt (nxt (nxt c)) = prv c := by revert c; decide

/-! ## The values the copies land -/

variable {m}

/-- The lower half of the chunk two away, on `prv c`; the upper half of it, on `nxt c`. -/
theorem lands_lo (x : S128x1024.Idx) :
    partAt m c (atA (256 * (nxt (nxt c)).val + (x 0).val) (x 1).val) = halfAt m (prv c) (atH 1 (x 0).val (x 1).val) := by
  rw [halfAt_one (prv c) (x 0).isLt (x 1).isLt, nxt_prv, prv_prv]
theorem lands_hi (x : S128x1024.Idx) :
    partAt m c (atA (256 * (nxt (nxt c)).val + 128 + (x 0).val) (x 1).val) = halfAt m (nxt c) (atH 0 (x 0).val (x 1).val) := by
  rw [halfAt_zero (nxt c) (x 0).isLt (x 1).isLt, prv_nxt]
/-- The chunk of `nxt c` there, the chunk of `prv c` there. -/
theorem lands_nxt (x : S256x1024.Idx) :
    redAt m c (atA (256 * (nxt c).val + (x 0).val) (x 1).val) = fullAt m (nxt c) (atF 0 (x 0).val (x 1).val) := by
  rw [fullAt_zero (nxt c) (x 0).isLt (x 1).isLt, prv_nxt]
theorem lands_prv (x : S256x1024.Idx) :
    redAt m c (atA (256 * (prv c).val + (x 0).val) (x 1).val) = fullAt m (prv c) (atF 1 (x 0).val (x 1).val) := by
  rw [fullAt_one (prv c) (x 0).isLt (x 1).isLt, nxt_prv]

variable (m)

/-! ## The parts -/

/-- The barrier, the product's chunk for the device two away, and the copy of its lower half to `prv c`. -/
theorem part2 (v14 v25 v28 v29 : BitVec 32) (v34 : BitVec 1)
    {α : Type} {Q : α → sProp 𝕄} {k : (Σ' (v36 : BitVec 32) (v43 : FVec F S512x1024 .bf16), BitVec 32) → Prog (TpuEff nD τ sig (Elt F) Λ₀ .tc) α} :
    iprop(records m K ∗ levAts L lv ∗ owing c debts ∗ tok (prv c) 0 true ∗ barPay (prv c) true ∗ tok (nxt c) 0 false ∗ barPay (nxt c) false
        ∗ pos c 0 ∗ cred (tallyAt (kcell (c, 0)) () 2)
        ∗ lhsPts c (lhs m c) ∗ rhsPts c (rhs m c) ∗ (∃ f, accPts c (rows (nxt (nxt c))) fullShare f)
        ∗ tok c 1 false ∗ tok (prv c) 4 false)
      ⊢ iprop((∀ w, (owing c (debts.drop 3) ∗ done c 0
            ∗ ((∃ f, fullPts (prv c) (slotF 1) f) ∗ (∃ f, outPts (prv c) (rows c) fullShare f) ∗ (∃ f, outPts (prv c) (hiRows (nxt c)) fullShare f))
            ∗ ((∃ f, halfPts (nxt c) (slotH 0) f) ∗ (∃ f, fullPts (nxt c) (slotF 0) f) ∗ (∃ f, outPts (nxt c) (rows c) fullShare f) ∗ (∃ f, outPts (nxt c) (loRows (prv c)) fullShare f))
            ∗ lhsPts c (lhs m c) ∗ rhsPts c (rhs m c) ∗ accPts c (hiRows (nxt (nxt c))) fullShare (partAt m c) ∗ crd c 1)
          -∗ runs c (k ⟨w, k0_pay1 (rhs m c), 256#32⟩) Q)
        -∗ runs c (k0_part2 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v14 v25 v28 v29 v34 >>= k) Q) := by
  rw [k0_part2_eq_skeleton]; unfold k0_part2_skel
  simp only [semSignalWord, semWaitWord, Prog.lift, Prog.bind_op, Prog.bind_ret, Prog.pure_eq_ret]
  have hst : ∀ x : S256x1024.Idx, k0_pay2 (rhs m c) (fun x => lhs m c (atX (256 * (nxt (nxt c)).val + (x 0).val) (x 1).val)) x
      = partAt m c (atA (256 * (nxt (nxt c)).val + (x 0).val) (x 1).val) := fun x => (partAt_chunk c (nxt (nxt c)) x).symm
  iintro ⟨#HR, #HL, HO, Ht1, Hp1, Ht2, Hp2, Hat, Hc, Hl, Hr, ⟨%f, Ha⟩, Hts, Htr⟩ Hk
  iapply (step_signal m K c false (debts.drop 1) (prv c) rfl _ (dev1_eq c) (by decide)) $$ [HO Ht1 Hp1]
  · iframe HR HO Ht1 Hp1
  iintro HO
  iapply (step_signal m K c true (debts.drop 2) (nxt c) rfl _ (dev2_eq c) (by decide)) $$ [HO Ht2 Hp2]
  · iframe HR HO Ht2 Hp2
  iintro HO
  iapply (step_wait_bar m K c (debts.drop 2) (by decide) (by decide)) $$ [HO Hat Hc]
  · iframe HR HL HO Hat Hc
  iintro ⟨HO, Hz, Hpl, HplN⟩
  unfold places
  icases Hpl with ⟨⟨%fh, Hh⟩, HplP⟩
  iapply (load_rhs c) $$ Hr; iintro Hr
  iapply (load_lhs c (off1_far c)) $$ Hl; iintro Hl
  iapply (load_acc c (n := 256) rfl (off2_far c) (Finset.Subset.refl _)) $$ Ha; iintro Ha
  iapply (store_acc c (n := 256) rfl (off2_far c) (Finset.Subset.refl _) (partAt m c) hst (fun i hi hn => absurd hi hn)) $$ Ha; iintro Ha
  ihave Ha := (acc_rows c (nxt (nxt c)) fullShare (partAt m c)).1 $$ Ha
  icases Ha with ⟨Hlo, Hhi⟩
  iapply (send_half m K c false 1 4 (by decide) (by decide) rfl (debts.drop 3) (prv c) rfl _ (dev3_eq c) rfl rfl (off3_eq c) rfl rfl rfl (lands_lo c)) $$ [HO Hlo Hh Hts Htr]
  · iframe HR HO Hlo Hh Hts Htr
  iintro ⟨Hcr, HO⟩
  iapply Hk
  iframe

/-- The copy of that chunk's upper half to `nxt c`, and the product's chunks for both neighbours. -/
theorem part3 (v2 v14 v25 v36 c256 : BitVec 32)
    {α : Type} {Q : α → sProp 𝕄} {k : Vec F S256x512 .bf16 → Prog (TpuEff nD τ sig (Elt F) Λ₀ .tc) α} :
    iprop(records m K ∗ owing c (debts.drop 3) ∗ accPts c (hiRows (nxt (nxt c))) fullShare (partAt m c) ∗ (∃ f, halfPts (nxt c) (slotH 0) f)
        ∗ tok c 2 false ∗ tok (nxt c) 3 false ∗ lhsPts c (lhs m c)
        ∗ (∃ f, accPts c (rows (nxt c)) fullShare f) ∗ (∃ f, accPts c (rows (prv c)) fullShare f))
      ⊢ iprop(((owing c (debts.drop 4) ∗ crd c 2 ∗ lhsPts c (lhs m c) ∗ accPts c (rows (nxt c)) fullShare (partAt m c) ∗ accPts c (rows (prv c)) fullShare (partAt m c))
          -∗ runs c (k (lhsRows m c c.val)) Q)
        -∗ runs c (k0_part3 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v2 v14 v25 v36 (k0_pay1 (rhs m c)) c256 >>= k) Q) := by
  rw [k0_part3_eq_skeleton]; unfold k0_part3_skel
  simp only [Prog.lift, Prog.bind_op, Prog.bind_ret, Prog.pure_eq_ret]
  have hst : ∀ x : S256x1024.Idx, k0_pay3 (k0_pay1 (rhs m c)) (fun x => lhs m c (atX (256 * (nxt c).val + (x 0).val) (x 1).val)) x
      = partAt m c (atA (256 * (nxt c).val + (x 0).val) (x 1).val) := fun x => (partAt_chunk c (nxt c) x).symm
  have hst' : ∀ x : S256x1024.Idx, k0_pay4 (k0_pay1 (rhs m c)) (fun x => lhs m c (atX (256 * (prv c).val + (x 0).val) (x 1).val)) x
      = partAt m c (atA (256 * (prv c).val + (x 0).val) (x 1).val) := fun x => (partAt_chunk c (prv c) x).symm
  iintro ⟨#HR, HO, Hhi, ⟨%fh, Hh⟩, Hts, Htr, Hl, ⟨%f, Ha⟩, ⟨%f', Hb⟩⟩ Hk
  iapply (send_half m K c true 2 3 (by decide) (by decide) rfl (debts.drop 4) (nxt c) rfl _ (dev4_eq c) rfl rfl (off4_far c) rfl rfl rfl (lands_hi c)) $$ [HO Hhi Hh Hts Htr]
  · iframe HR HO Hhi Hh Hts Htr
  iintro ⟨Hcr, HO⟩
  iapply (load_lhs c (off1_nxt c)) $$ Hl; iintro Hl
  iapply (load_acc c (n := 256) rfl (off2_nxt c) (Finset.Subset.refl _)) $$ Ha; iintro Ha
  iapply (store_acc c (n := 256) rfl (off2_nxt c) (Finset.Subset.refl _) (partAt m c) hst (fun i hi hn => absurd hi hn)) $$ Ha; iintro Ha
  iapply (load_lhs c (off5_eq c)) $$ Hl; iintro Hl
  iapply (load_acc c (n := 256) rfl (off6_eq c) (Finset.Subset.refl _)) $$ Hb; iintro Hb
  iapply (store_acc c (n := 256) rfl (off6_eq c) (Finset.Subset.refl _) (partAt m c) hst' (fun i hi hn => absurd hi hn)) $$ Hb; iintro Hb
  iapply (load_lhs c (off7_eq c)) $$ Hl; iintro Hl
  iapply Hk
  iframe

theorem hi_subset (q : Dev nD) : hiRows q ⊆ rows q := by rw [rows_eq]; exact Finset.subset_union_right
theorem lo_subset (q : Dev nD) : loRows q ⊆ rows q := by rw [rows_eq]; exact Finset.subset_union_left

/-- The wait for the upper half of `nxt c`'s chunk, and its addition. -/
theorem part4 (v2 v25 : BitVec 32)
    {α : Type} {Q : α → sProp 𝕄} {k : FVec F S256x1024 .f32 → Prog (TpuEff nD τ sig (Elt F) Λ₀ .tc) α} :
    iprop(records m K ∗ levAts L lv ∗ owing c (debts.drop 4) ∗ pos c 3 ∗ crd c 3 ∗ accPts c (rows (nxt c)) fullShare (partAt m c))
      ⊢ iprop(((owing c (debts.drop 4) ∗ done c 3 ∗ halfPts c (slotH 0) (halfAt m c) ∗ accPts c (rows (nxt c)) fullShare (redAt m c))
          -∗ runs c (k (ownRows m c)) Q)
        -∗ runs c (k0_part4 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v2 v25 (k0_pay1 (rhs m c)) (lhsRows m c c.val) >>= k) Q) := by
  rw [k0_part4_eq_skeleton]; unfold k0_part4_skel
  simp only [Prog.lift, Prog.bind_op, Prog.bind_ret, Prog.pure_eq_ret]
  iintro ⟨#HR, #HL, HO, Hat, Hc, Ha⟩ Hk
  iapply (step_wait m K c 3 (by decide) (debts.drop 4) (by decide) rfl halfM_credit (halfPts c (slotH 0) (halfAt m c)) rfl) $$ [HO Hat Hc]
  · iframe HR HL HO Hat Hc
  iintro ⟨HO, Hz, Hh⟩
  iapply (load_acc c (n := 128) rfl (off8_eq c) (hi_subset (nxt c))) $$ Ha; iintro Ha
  iapply (load_half c) $$ Hh; iintro Hh
  iapply (load_acc c (n := 128) rfl (off8_eq c) (hi_subset (nxt c))) $$ Ha; iintro Ha
  iapply (store_acc c (n := 128) rfl (off8_eq c) (hi_subset (nxt c)) (redAt m c) (fun x => (redAt_hi c x).symm) (redAt_nxt_rest c)) $$ Ha; iintro Ha
  iapply Hk
  iframe

/-- The copy of `nxt c`'s chunk there, the wait for the lower half of `prv c`'s chunk, and its addition. -/
theorem part5 (v2 v14 : BitVec 32)
    {α : Type} {Q : α → sProp 𝕄} {k : PUnit → Prog (TpuEff nD τ sig (Elt F) Λ₀ .tc) α} :
    iprop(records m K ∗ levAts L lv ∗ owing c (debts.drop 4) ∗ accPts c (rows (nxt c)) fullShare (redAt m c) ∗ (∃ f, fullPts (nxt c) (slotF 0) f)
        ∗ tok c 5 false ∗ tok (nxt c) 7 false ∗ pos c 4 ∗ crd c 4 ∗ accPts c (rows (prv c)) fullShare (partAt m c))
      ⊢ iprop(((owing c (debts.drop 5) ∗ crd c 5 ∗ done c 4 ∗ halfPts c (slotH 1) (halfAt m c) ∗ accPts c (rows (prv c)) fullShare (redAt m c))
          -∗ runs c (k ⟨⟩) Q)
        -∗ runs c (k0_part5 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v2 v14 >>= k) Q) := by
  rw [k0_part5_eq_skeleton]; unfold k0_part5_skel
  simp only [Prog.lift, Prog.bind_op, Prog.bind_ret, Prog.pure_eq_ret]
  iintro ⟨#HR, #HL, HO, Ha, ⟨%ff, Hf⟩, Hts, Htr, Hat, Hc, Hb⟩ Hk
  iapply (send_full m K c true 5 7 (by decide) (by decide) rfl (debts.drop 5) (nxt c) rfl _ (dev5_eq c) rfl rfl (off9_eq c) rfl rfl rfl (lands_nxt c)) $$ [HO Ha Hf Hts Htr]
  · iframe HR HO Ha Hf Hts Htr
  iintro ⟨Hcr, HO⟩
  iapply (step_wait m K c 4 (by decide) (debts.drop 5) (by decide) rfl halfM_credit (halfPts c (slotH 1) (halfAt m c)) rfl) $$ [HO Hat Hc]
  · iframe HR HL HO Hat Hc
  iintro ⟨HO, Hz, Hh⟩
  iapply (load_acc c (n := 128) rfl (off10_eq c) (lo_subset (prv c))) $$ Hb; iintro Hb
  iapply (load_half c) $$ Hh; iintro Hh
  iapply (load_acc c (n := 128) rfl (off10_eq c) (lo_subset (prv c))) $$ Hb; iintro Hb
  iapply (store_acc c (n := 128) rfl (off10_eq c) (lo_subset (prv c)) (redAt m c) (fun x => (redAt_lo c x).symm) (redAt_prv_rest c)) $$ Hb; iintro Hb
  iapply Hk
  iframe

/-- The copy of `prv c`'s chunk there, and the waits for both copies of the own chunk. -/
theorem part6 (v2 : BitVec 32)
    {α : Type} {Q : α → sProp 𝕄} {k : (Σ' (v189 : FVec F S256x1024 .f32) (v192 : FVec F S256x1024 .f32), F .f32) → Prog (TpuEff nD τ sig (Elt F) Λ₀ .tc) α} :
    iprop(records m K ∗ levAts L lv ∗ owing c (debts.drop 5) ∗ accPts c (rows (prv c)) fullShare (redAt m c) ∗ (∃ f, fullPts (prv c) (slotF 1) f)
        ∗ tok c 6 false ∗ tok (prv c) 8 false ∗ pos c 7 ∗ crd c 7 ∗ pos c 8 ∗ crd c 8)
      ⊢ iprop(((owing c (debts.drop 6) ∗ crd c 6 ∗ done c 7 ∗ done c 8 ∗ fullPts c (slotF 0) (fullAt m c) ∗ fullPts c (slotF 1) (fullAt m c))
          -∗ runs c (k ⟨k0_pay8 (ownRows m c) (fullSlot m c 0) (fullSlot m c 1), k0_pay9 (ownRows m c) (fullSlot m c 0) (fullSlot m c 1), Scalar.ofBits .f32 0x3F800000#32⟩) Q)
        -∗ runs c (k0_part6 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v2 (ownRows m c) >>= k) Q) := by
  rw [k0_part6_eq_skeleton]; unfold k0_part6_skel
  simp only [Prog.lift, Prog.bind_op, Prog.bind_ret, Prog.pure_eq_ret]
  iintro ⟨#HR, #HL, HO, Ha, ⟨%ff, Hf⟩, Hts, Htr, Hat, Hc, Hat', Hc'⟩ Hk
  iapply (send_full m K c false 6 8 (by decide) (by decide) rfl (debts.drop 6) (prv c) rfl _ (dev6_eq c) rfl rfl (off11_eq c) rfl rfl rfl (lands_prv c)) $$ [HO Ha Hf Hts Htr]
  · iframe HR HO Ha Hf Hts Htr
  iintro ⟨Hcr, HO⟩
  iapply (step_wait m K c 7 (by decide) (debts.drop 6) (by decide) rfl fullM_credit (fullPts c (slotF 0) (fullAt m c)) rfl) $$ [HO Hat Hc]
  · iframe HR HL HO Hat Hc
  iintro ⟨HO, Hz, Hf⟩
  iapply (step_wait m K c 8 (by decide) (debts.drop 6) (by decide) rfl fullM_credit (fullPts c (slotF 1) (fullAt m c)) rfl) $$ [HO Hat' Hc']
  · iframe HR HL HO Hat' Hc'
  iintro ⟨HO, Hz', Hf'⟩
  iapply (load_full c) $$ Hf; iintro Hf
  iapply (load_full c) $$ Hf'; iintro Hf'
  iapply Hk
  iframe

end Cert.KernelIdeal.Work

end
-- ==== Proof.Ideal.PartsB.lean ====
/-
The body part by part, second half: the own chunk of the result, its copies to both neighbours, the forwarded halves, and the departures' waits.

-/
module

public import proofs.«01_k».proof.Proof.Ideal.PartsA

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (K : Dev nD × Fin 17 → ℕ) (c : Dev nD)

/-- The own chunk of the result, and its copies to both neighbours. -/
theorem part7 (v2 v14 v25 : BitVec 32)
    {α : Type} {Q : α → sProp 𝕄} {k : PUnit → Prog (TpuEff nD τ sig (Elt F) Λ₀ .tc) α} :
    iprop(records m K ∗ owing c (debts.drop 6) ∗ (∃ f, outPts c (rows c) fullShare f) ∗ (∃ f, outPts (prv c) (rows c) fullShare f) ∗ (∃ f, outPts (nxt c) (rows c) fullShare f)
        ∗ tok c 9 false ∗ tok (prv c) 12 false ∗ tok c 10 false ∗ tok (nxt c) 11 false)
      ⊢ iprop(((owing c (debts.drop 8) ∗ crd c 9 ∗ crd c 10) -∗ runs c (k ⟨⟩) Q)
        -∗ runs c (k0_part7 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v2 v14 v25 (k0_pay8 (ownRows m c) (fullSlot m c 0) (fullSlot m c 1)) (k0_pay9 (ownRows m c) (fullSlot m c 0) (fullSlot m c 1))
          (Scalar.ofBits .f32 0x3F800000#32) >>= k) Q) := by
  rw [k0_part7_eq_skeleton]; unfold k0_part7_skel
  simp only [Prog.lift, Prog.bind_op, Prog.bind_ret, Prog.pure_eq_ret]
  have hpay : dmaPay m (prv c) 12 = outPts (prv c) (rows c) fullShare (outAll m) := by
    show outPts (prv c) (rows (nxt (prv c))) fullShare (outAll m) = _; rw [nxt_prv]
  have hpay' : dmaPay m (nxt c) 11 = outPts (nxt c) (rows c) fullShare (outAll m) := by
    show outPts (nxt c) (rows (prv (nxt c))) fullShare (outAll m) = _; rw [prv_nxt]
  iintro ⟨#HR, HO, ⟨%f, Ha⟩, ⟨%fp, Hp⟩, ⟨%fn, Hn⟩, Hts, Htr, Hts', Htr'⟩ Hk
  iapply (load_out c (n := 256) rfl (off12_eq c) (Finset.Subset.refl _)) $$ Ha; iintro Ha
  iapply (store_out c (n := 256) rfl (off12_eq c) (Finset.Subset.refl _) (outAll m) (fun x => (outAll_chunk c x).symm) (fun i hi hn => absurd hi hn)) $$ Ha; iintro Ha
  ihave Ha := (out_shares c (rows c) (outAll m)).1 $$ Ha
  icases Ha with ⟨Ha, Hb⟩
  iapply (send_out m K c false 9 12 (by decide) (by decide) rfl (debts.drop 7) (prv c) rfl _ (dev7_eq c) rfl rfl (w := 256) rfl (off13_eq c) rfl rfl hpay) $$ [HO Ha Hp Hts Htr]
  · iframe HR HO Ha Hp Hts Htr
  iintro ⟨Hcr, HO⟩
  iapply (send_out m K c true 10 11 (by decide) (by decide) rfl (debts.drop 8) (nxt c) rfl _ (dev8_eq c) rfl rfl (w := 256) rfl (off13_eq c) rfl rfl hpay') $$ [HO Hb Hn Hts' Htr']
  · iframe HR HO Hb Hn Hts' Htr'
  iintro ⟨Hcr', HO⟩
  iapply Hk
  iframe

/-- The wait for `prv c`'s chunk of the result, the copy of its lower half on to `nxt c`, and the wait for `nxt c`'s chunk. -/
theorem part8 (v2 v14 v25 : BitVec 32)
    {α : Type} {Q : α → sProp 𝕄} {k : PUnit → Prog (TpuEff nD τ sig (Elt F) Λ₀ .tc) α} :
    iprop(records m K ∗ levAts L lv ∗ owing c (debts.drop 8) ∗ pos c 11 ∗ crd c 11 ∗ pos c 12 ∗ crd c 12
        ∗ (∃ f, outPts (nxt c) (loRows (prv c)) fullShare f) ∗ tok c 13 false ∗ tok (nxt c) 15 false)
      ⊢ iprop(((owing c (debts.drop 9) ∗ done c 11 ∗ done c 12 ∗ crd c 13 ∗ outPts c (hiRows (prv c)) fullShare (outAll m) ∗ outPts c (rows (nxt c)) fullShare (outAll m))
          -∗ runs c (k ⟨⟩) Q)
        -∗ runs c (k0_part8 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v2 v14 v25 >>= k) Q) := by
  rw [k0_part8_eq_skeleton]; unfold k0_part8_skel
  simp only [Prog.lift, Prog.bind_op, Prog.bind_ret, Prog.pure_eq_ret]
  have hpay : dmaPay m (nxt c) 15 = outPts (nxt c) (loRows (prv c)) fullShare (outAll m) := by
    show outPts (nxt c) (loRows (nxt (nxt (nxt c)))) fullShare (outAll m) = _; rw [nxt3]
  iintro ⟨#HR, #HL, HO, Hat, Hc, Hat', Hc', ⟨%fn, Hn⟩, Hts, Htr⟩ Hk
  iapply (step_wait m K c 11 (by decide) (debts.drop 8) (by decide) rfl outM_credit_full (outPts c (rows (prv c)) fullShare (outAll m)) rfl) $$ [HO Hat Hc]
  · iframe HR HL HO Hat Hc
  iintro ⟨HO, Hz, Ha⟩
  ihave Ha := (out_rows c (prv c) fullShare (outAll m)).1 $$ Ha
  icases Ha with ⟨Hlo, Hhi⟩
  iapply (send_out m K c true 13 15 (by decide) (by decide) rfl (debts.drop 9) (nxt c) rfl _ (dev9_eq c) rfl rfl (w := 128) rfl (off14_eq c) rfl rfl hpay) $$ [HO Hlo Hn Hts Htr]
  · iframe HR HO Hlo Hn Hts Htr
  iintro ⟨Hcr, HO⟩
  iapply (step_wait m K c 12 (by decide) (debts.drop 9) (by decide) rfl outM_credit_full (outPts c (rows (nxt c)) fullShare (outAll m)) rfl) $$ [HO Hat' Hc']
  · iframe HR HL HO Hat' Hc'
  iintro ⟨HO, Hz', Hb⟩
  iapply Hk
  iframe

/-- The copy of the upper half of `nxt c`'s chunk on to `prv c`, the waits for both forwarded halves, and the first departure's wait. -/
theorem part9 (v2 v36 : BitVec 32)
    {α : Type} {Q : α → sProp 𝕄} {k : PUnit → Prog (TpuEff nD τ sig (Elt F) Λ₀ .tc) α} :
    iprop(records m K ∗ levAts L lv ∗ owing c (debts.drop 9) ∗ outPts c (rows (nxt c)) fullShare (outAll m) ∗ (∃ f, outPts (prv c) (hiRows (nxt c)) fullShare f)
        ∗ tok c 14 false ∗ tok (prv c) 16 false ∗ pos c 15 ∗ crd c 15 ∗ pos c 16 ∗ crd c 16 ∗ pos c 1 ∗ crd c 1)
      ⊢ iprop(((owing c [] ∗ crd c 14 ∗ done c 15 ∗ done c 16 ∗ done c 1 ∗ outPts c (loRows (nxt c)) fullShare (outAll m)
            ∗ outPts c (loRows (nxt (nxt c))) fullShare (outAll m) ∗ outPts c (hiRows (nxt (nxt c))) fullShare (outAll m) ∗ (∃ f, accPts c (loRows (nxt (nxt c))) fullShare f))
          -∗ runs c (k ⟨⟩) Q)
        -∗ runs c (k0_part9 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c v2 v36 >>= k) Q) := by
  rw [k0_part9_eq_skeleton]; unfold k0_part9_skel
  simp only [Prog.lift, Prog.bind_op, Prog.bind_ret, Prog.pure_eq_ret]
  have hpay : dmaPay m (prv c) 16 = outPts (prv c) (hiRows (nxt c)) fullShare (outAll m) := by
    show outPts (prv c) (hiRows (nxt (nxt (prv c)))) fullShare (outAll m) = _; rw [nxt_prv]
  iintro ⟨#HR, #HL, HO, Ha, ⟨%fp, Hp⟩, Hts, Htr, Hat, Hc, Hat', Hc', Hat'', Hc''⟩ Hk
  ihave Ha := (out_rows c (nxt c) fullShare (outAll m)).1 $$ Ha
  icases Ha with ⟨Hlo, Hhi⟩
  iapply (send_out m K c false 14 16 (by decide) (by decide) rfl [] (prv c) rfl _ (dev10_eq c) rfl rfl (w := 128) rfl (off4_nxt c) rfl rfl hpay) $$ [HO Hhi Hp Hts Htr]
  · iframe HR HO Hhi Hp Hts Htr
  iintro ⟨Hcr, HO⟩
  iapply (step_wait m K c 15 (by decide) [] (by decide) rfl outM_credit_half (outPts c (loRows (nxt (nxt c))) fullShare (outAll m)) rfl) $$ [HO Hat Hc]
  · iframe HR HL HO Hat Hc
  iintro ⟨HO, Hz, Hl⟩
  iapply (step_wait m K c 16 (by decide) [] (by decide) rfl outM_credit_half (outPts c (hiRows (nxt (nxt c))) fullShare (outAll m)) rfl) $$ [HO Hat' Hc']
  · iframe HR HL HO Hat' Hc'
  iintro ⟨HO, Hz', Hh⟩
  iapply (step_wait m K c 1 (by decide) [] (by decide) rfl accM_credit_half iprop(∃ f, accPts c (loRows (nxt (nxt c))) fullShare f) rfl) $$ [HO Hat'' Hc'']
  · iframe HR HL HO Hat'' Hc''
  iintro ⟨HO, Hz'', Hacc⟩
  iapply Hk
  iframe

/-- The waits of six more departures. -/
theorem part10
    {α : Type} {Q : α → sProp 𝕄} {k : PUnit → Prog (TpuEff nD τ sig (Elt F) Λ₀ .tc) α} :
    iprop(records m K ∗ levAts L lv ∗ owing c [] ∗ (pos c 2 ∗ crd c 2) ∗ (pos c 5 ∗ crd c 5) ∗ (pos c 6 ∗ crd c 6) ∗ (pos c 9 ∗ crd c 9) ∗ (pos c 10 ∗ crd c 10) ∗ (pos c 13 ∗ crd c 13))
      ⊢ iprop(((owing c [] ∗ (done c 2 ∗ done c 5 ∗ done c 6 ∗ done c 9 ∗ done c 10 ∗ done c 13) ∗ (∃ f, accPts c (hiRows (nxt (nxt c))) fullShare f)
            ∗ (∃ f, accPts c (rows (nxt c)) fullShare f) ∗ (∃ f, accPts c (rows (prv c)) fullShare f)
            ∗ outPts c (rows c) fullShare.left (outAll m) ∗ outPts c (rows c) fullShare.right (outAll m) ∗ outPts c (loRows (prv c)) fullShare (outAll m))
          -∗ runs c (k ⟨⟩) Q)
        -∗ runs c (k0_part10 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10
          c >>= k) Q) := by
  rw [k0_part10_eq_skeleton]; unfold k0_part10_skel
  simp only [Prog.lift, Prog.bind_op, Prog.bind_ret, Prog.pure_eq_ret]
  iintro ⟨#HR, #HL, HO, ⟨P2, C2⟩, ⟨P5, C5⟩, ⟨P6, C6⟩, ⟨P9, C9⟩, ⟨P10, C10⟩, ⟨P13, C13⟩⟩ Hk
  iapply (step_wait m K c 2 (by decide) [] (by decide) rfl accM_credit_half iprop(∃ f, accPts c (hiRows (nxt (nxt c))) fullShare f) rfl) $$ [HO P2 C2]
  · iframe HR HL HO P2 C2
  iintro ⟨HO, Z2, H2⟩
  iapply (step_wait m K c 5 (by decide) [] (by decide) rfl accM_credit_full iprop(∃ f, accPts c (rows (nxt c)) fullShare f) rfl) $$ [HO P5 C5]
  · iframe HR HL HO P5 C5
  iintro ⟨HO, Z5, H5⟩
  iapply (step_wait m K c 6 (by decide) [] (by decide) rfl accM_credit_full iprop(∃ f, accPts c (rows (prv c)) fullShare f) rfl) $$ [HO P6 C6]
  · iframe HR HL HO P6 C6
  iintro ⟨HO, Z6, H6⟩
  iapply (step_wait m K c 9 (by decide) [] (by decide) rfl outM_credit_full (outPts c (rows c) fullShare.left (outAll m)) rfl) $$ [HO P9 C9]
  · iframe HR HL HO P9 C9
  iintro ⟨HO, Z9, H9⟩
  iapply (step_wait m K c 10 (by decide) [] (by decide) rfl outM_credit_full (outPts c (rows c) fullShare.right (outAll m)) rfl) $$ [HO P10 C10]
  · iframe HR HL HO P10 C10
  iintro ⟨HO, Z10, H10⟩
  iapply (step_wait m K c 13 (by decide) [] (by decide) rfl outM_credit_half (outPts c (loRows (prv c)) fullShare (outAll m)) rfl) $$ [HO P13 C13]
  · iframe HR HL HO P13 C13
  iintro ⟨HO, Z13, H13⟩
  iapply Hk
  iframe

end Cert.KernelIdeal.Work

end
-- ==== Proof.Ideal.Places.lean ====
/-
Whole buffers as the pieces the protocol moves: the accumulator and the result by chunks, the landing buffers by slots.

-/
module

public import proofs.«01_k».proof.Proof.Ideal.PartsB

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (c : Dev nD)

/-- A conjunction over the four devices, read from device `c`. -/
theorem bigSep_around (Φ : Dev nD → sProp 𝕄) : bigSep Finset.univ Φ = iprop(Φ c ∗ Φ (nxt c) ∗ Φ (prv c) ∗ Φ (nxt (nxt c))) :=
  bigSep_univ_eq_bigSepL [c, nxt c, prv c, nxt (nxt c)] (by revert c; decide) (by revert c; decide) Φ
theorem bigSep_two (Φ : Fin 2 → sProp 𝕄) : bigSep Finset.univ Φ = iprop(Φ 0 ∗ Φ 1) := bigSep_univ_eq_bigSepL [0, 1] (by decide) (by decide) Φ

/-- A buffer held in pieces of a partition, each at some contents, is the buffer at some contents. -/
theorem join_pieces {T : Type} [Fintype T] [DecidableEq T] {ℓ : Loc nD τ sig} (P : T → Finset (Idx ℓ)) (f₀ : Buf (Elt F) ℓ)
    (hd : ∀ t t', t ≠ t' → Disjoint (P t) (P t')) (hc : Finset.univ.biUnion P = Finset.univ) :
    bigSep Finset.univ (fun t => iprop(∃ f, ℓ ↦[P t]{fullShare} f)) ⊢ (iprop(∃ f, ℓ ↦{fullShare} f) : sProp 𝕄) := by
  haveI : Nonempty (Buf (Elt F) ℓ) := ⟨f₀⟩
  iintro H
  ihave H := (BI.bigSep_exists_pi Finset.univ (fun t (f : Buf (Elt F) ℓ) => (ℓ ↦[P t]{fullShare} f : sProp 𝕄))) $$ H
  icases H with ⟨%fs, H⟩
  ihave H := (pointsTo_biUnion_join Finset.univ P fs f₀ (fun t _ t' _ h => hd t t' h)) $$ H
  icases H with ⟨%g, -, H⟩
  rw [hc]
  iexists g; iexact H

/-- And the other way, at one contents. -/
theorem split_pieces {T : Type} [Fintype T] [DecidableEq T] (ℓ : Loc nD τ sig) (P : T → Finset (Idx ℓ)) (f : Buf (Elt F) ℓ)
    (hd : ∀ t t', t ≠ t' → Disjoint (P t) (P t')) (hc : Finset.univ.biUnion P = Finset.univ) :
    (ℓ ↦{fullShare} f : sProp 𝕄) = bigSep Finset.univ (fun t => (ℓ ↦[P t]{fullShare} f : sProp 𝕄)) := by
  have h := pointsTo_biUnion (q := fullShare) (f := f) (Ix := Unit) (Name := ℕ) (U := UU) (Lvl := ℕ) (ℓ := ℓ) Finset.univ P (fun t _ t' _ h => hd t t' h)
  rw [hc] at h; exact h

theorem rows_cover : (Finset.univ : Finset (Dev nD)).biUnion rows = Finset.univ := by
  ext i
  have h : (i 0).val < 1024 := (i 0).isLt
  refine ⟨fun _ => Finset.mem_univ _, fun _ => Finset.mem_biUnion.mpr ⟨⟨(i 0).val / 256, by show _ < 4; omega⟩, Finset.mem_univ _, ?_⟩⟩
  rw [mem_band]; show 256 * ((i 0).val / 256) ≤ _ ∧ _ < 256 * ((i 0).val / 256) + 256; omega
theorem rows_disjoint (q q' : Dev nD) (h : q ≠ q') : Disjoint (rows q) (rows q') :=
  band_disjoint (by have : q.val ≠ q'.val := fun e => h (Fin.ext e); omega)
theorem slotH_cover : (Finset.univ : Finset (Fin 2)).biUnion (fun k => slotH k.val) = Finset.univ := by
  ext i; exact ⟨fun _ => Finset.mem_univ _, fun _ => Finset.mem_biUnion.mpr ⟨i 0, Finset.mem_univ _, mem_slotH.mpr rfl⟩⟩
theorem slotH_disjoint (k k' : Fin 2) (h : k ≠ k') : Disjoint (slotH k.val) (slotH k'.val) :=
  Finset.disjoint_left.mpr fun i hi hi' => h (Fin.ext ((mem_slotH.mp hi).symm.trans (mem_slotH.mp hi')))
theorem slotF_cover : (Finset.univ : Finset (Fin 2)).biUnion (fun k => slotF k.val) = Finset.univ := by
  ext i; exact ⟨fun _ => Finset.mem_univ _, fun _ => Finset.mem_biUnion.mpr ⟨i 0, Finset.mem_univ _, mem_slotF.mpr rfl⟩⟩
theorem slotF_disjoint (k k' : Fin 2) (h : k ≠ k') : Disjoint (slotF k.val) (slotF k'.val) :=
  Finset.disjoint_left.mpr fun i hi hi' => h (Fin.ext ((mem_slotF.mp hi).symm.trans (mem_slotF.mp hi')))

/-! ## The accumulator -/

theorem acc_chunks (f : (cc0_scratch0 : Ref sig .tc).ty.Contents (Elt F)) :
    (((c : Thread nD τ).loc cc0_scratch0) ↦{fullShare} f : sProp 𝕄)
      = iprop(accPts c (rows c) fullShare f ∗ accPts c (rows (nxt c)) fullShare f ∗ accPts c (rows (prv c)) fullShare f ∗ accPts c (rows (nxt (nxt c))) fullShare f) := by
  exact (split_pieces ((c : Thread nD τ).loc cc0_scratch0) rows f rows_disjoint rows_cover).trans (bigSep_around c fun q => accPts c (rows q) fullShare f)
theorem acc_join (f₀ : (cc0_scratch0 : Ref sig .tc).ty.Contents (Elt F)) :
    iprop((∃ f, accPts c (rows c) fullShare f) ∗ (∃ f, accPts c (rows (nxt c)) fullShare f) ∗ (∃ f, accPts c (rows (prv c)) fullShare f)
        ∗ (∃ f, accPts c (rows (nxt (nxt c))) fullShare f))
      ⊢ (iprop(∃ f, ((c : Thread nD τ).loc cc0_scratch0) ↦{fullShare} f) : sProp 𝕄) := by
  rw [← bigSep_around c (fun q => iprop(∃ f, accPts c (rows q) fullShare f))]
  exact join_pieces (ℓ := (c : Thread nD τ).loc cc0_scratch0) rows f₀ rows_disjoint rows_cover
theorem acc_halves_join (q : Dev nD) :
    iprop((∃ f, accPts c (loRows q) fullShare f) ∗ (∃ f, accPts c (hiRows q) fullShare f)) ⊢ (iprop(∃ f, accPts (F := F) c (rows q) fullShare f) : sProp 𝕄) := by
  rw [rows_eq]
  unfold accPts
  iintro ⟨⟨%f, H⟩, ⟨%g, H'⟩⟩
  iexists _
  iapply (pointsTo_join (halves_disjoint q))
  isplitl [H] <;> iassumption

/-! ## The result -/

theorem out_chunks (f : (cc0_stg2_0 : Ref sig .tc).ty.Contents (Elt F)) :
    (((c : Thread nD τ).loc cc0_stg2_0) ↦{fullShare} f : sProp 𝕄)
      = iprop(outPts c (rows c) fullShare f ∗ outPts c (rows (nxt c)) fullShare f ∗ outPts c (rows (prv c)) fullShare f ∗ outPts c (rows (nxt (nxt c))) fullShare f) := by
  exact (split_pieces ((c : Thread nD τ).loc cc0_stg2_0) rows f rows_disjoint rows_cover).trans (bigSep_around c fun q => outPts c (rows q) fullShare f)

/-! ## The landing buffers -/

theorem half_slots (f : (cc0_scratch1 : Ref sig .tc).ty.Contents (Elt F)) :
    (((c : Thread nD τ).loc cc0_scratch1) ↦{fullShare} f : sProp 𝕄) = iprop(halfPts c (slotH 0) f ∗ halfPts c (slotH 1) f) := by
  exact (split_pieces ((c : Thread nD τ).loc cc0_scratch1) (fun k : Fin 2 => slotH k.val) f slotH_disjoint slotH_cover).trans (bigSep_two fun k => halfPts c (slotH k.val) f)
theorem full_slots (f : (cc0_scratch2 : Ref sig .tc).ty.Contents (Elt F)) :
    (((c : Thread nD τ).loc cc0_scratch2) ↦{fullShare} f : sProp 𝕄) = iprop(fullPts c (slotF 0) f ∗ fullPts c (slotF 1) f) := by
  exact (split_pieces ((c : Thread nD τ).loc cc0_scratch2) (fun k : Fin 2 => slotF k.val) f slotF_disjoint slotF_cover).trans (bigSep_two fun k => fullPts c (slotF k.val) f)

end Cert.KernelIdeal.Work

end
-- ==== Proof.Ideal.Body.lean ====
/-
The kernel's body on a device: from the launch's deal of the protocol and the buffers, to the result in place, the landing buffers
back and every counter at zero.

-/
module

public import proofs.«01_k».proof.Proof.Ideal.Places
public import proofs.«01_k».proof.Proof.Gen.KernelIdeal.Launch
public import proofs.«01_k».proof.Proof.Gen.KernelIdeal.Points

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## What the launch deals a device -/

/-- Where the payer of a duty `false` finds the cell: the barrier and one arrival of each pair on `nxt c`, the other arrival on `prv c`, the departures here. -/
def way : ℕ → (Dev nD ≃ Dev nD)
  | 0 | 3 | 7 | 11 | 15 => ring
  | 4 | 8 | 12 | 16 => ring.symm
  | _ => Equiv.refl _

/-- The tokens of the duties `c` pays. -/
def payToks (c : Dev nD) : sProp 𝕄 :=
  iprop((bigSep Finset.univ fun j : Fin 17 => tok (way j.val c) j false) ∗ tok (prv c) 0 true)

/-- What the devices together owe a device's cell `j`. -/
def due (j : Fin 17) : ℕ := (debts.countP fun p => p.2 = j) * amt j.val

/-- The records, the positions at the own cells and the tokens of the own payments. -/
def dealt (c : Dev nD) : sProp 𝕄 := iprop(∃ K, records m K ∗ (bigSep Finset.univ fun j : Fin 17 => pos c j) ∗ payToks c)
/-- With the credits the devices owe the own cells, and the levels. -/
def start (c : Dev nD) : sProp 𝕄 :=
  iprop(dealt m c ∗ (bigSep Finset.univ fun j : Fin 17 => cred (tallyAt (kcell (c, j)) () (due j))) ∗ levAts L lv)

/-- The three scratch buffers at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
def Φ₁ (c : Dev nD) : sProp 𝕄 := iprop(scratch (F := F) c ∗ bigSep Finset.univ fun j : Fin 17 => done c j)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => lhs m c
    | ⟨1, _⟩ => rhs m c
    | ⟨2, _⟩ => outAll m
  Φ t := match t with
    | ⟨0, _⟩ => Φ₀ m c
    | ⟨_ + 1, _⟩ => Φ₁ c
  q _ := fullShare
  owed t := match t with
    | ⟨0, _⟩ => owed c debts
    | ⟨_ + 1, _⟩ => 0

/-! ## The pieces, named one by one -/

theorem bigSep_cells (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem payToks_eq (c : Dev nD) : (payToks c : sProp 𝕄) = iprop((tok (nxt c) 0 false ∗ tok c 1 false ∗ tok c 2 false ∗ tok (nxt c) 3 false ∗ tok (prv c) 4 false ∗ tok c 5 false ∗ tok c 6 false ∗ tok (nxt c) 7 false ∗ tok (prv c) 8 false ∗ tok c 9 false ∗ tok c 10 false ∗ tok (nxt c) 11 false ∗ tok (prv c) 12 false ∗ tok c 13 false ∗ tok c 14 false ∗ tok (nxt c) 15 false ∗ tok (prv c) 16 false) ∗ tok (prv c) 0 true) := by
  unfold payToks; rw [bigSep_cells]; rfl

theorem due_bar : due 0 = 2 := rfl
theorem due_arrival (j : Fin 17) (h : (debts.countP fun p => p.2 = j) = 1) : due j = amt j.val := by unfold due; rw [h, Nat.one_mul]

theorem dues (c : Dev nD) : (bigSep Finset.univ fun j : Fin 17 => (cred (tallyAt (kcell (c, j)) () (due j)) : sProp 𝕄))
    ⊢ iprop(cred (tallyAt (kcell (c, 0)) () 2) ∗ crd c 3 ∗ crd c 4 ∗ crd c 7 ∗ crd c 8 ∗ crd c 11 ∗ crd c 12 ∗ crd c 15 ∗ crd c 16) := by
  rw [bigSep_cells, due_bar, due_arrival 3 (by decide), due_arrival 4 (by decide), due_arrival 7 (by decide), due_arrival 8 (by decide), due_arrival 11 (by decide), due_arrival 12 (by decide), due_arrival 15 (by decide), due_arrival 16 (by decide)]
  iintro ⟨C0, C1, C2, C3, C4, C5, C6, C7, C8, C9, C10, C11, C12, C13, C14, C15, C16⟩
  iframe C0 C3 C4 C7 C8 C11 C12 C15 C16

theorem barPay_prv (c : Dev nD) : (barPay (prv c) true : sProp 𝕄) = places c 0 (prv c) (loRows (nxt (nxt c))) := by
  show places (nxt (prv c)) 0 (prv c) (loRows (prv (prv c))) = _; rw [nxt_prv, prv_prv]
theorem barPay_nxt (c : Dev nD) : (barPay (nxt c) false : sProp 𝕄) = places c 1 (nxt c) (hiRows (nxt (nxt c))) := by
  show places (prv (nxt c)) 1 (nxt c) (hiRows (nxt (nxt c))) = _; rw [prv_nxt]

/-! ## The body -/

section Body
variable (c : Dev nD)

/-- The first part reads the device's number and computes with it. -/
theorem part1 {α : Type} {Q : α → sProp 𝕄} {k : (Σ' (d0 : Dev nD) (v2 : BitVec 32) (v14 : BitVec 32) (v25 : BitVec 32) (v28 : BitVec 32) (v29 : BitVec 32), BitVec 1) → Prog (TpuEff nD τ sig (Elt F) Λ₀ .tc) α} :
    iprop(∀ v2 v14 v25 v28 v29 v34, runs c (k ⟨c, v2, v14, v25, v28, v29, v34⟩) Q)
      ⊢ runs c (k0_part1 (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10 >>= k) Q := by
  rw [k0_part1_eq_skeleton]; unfold k0_part1_skel
  simp only [Prog.lift, Prog.bind_op, Prog.bind_ret, Prog.pure_eq_ret, wp_deviceId]
  iintro H
  iapply H

variable (K : Dev nD × Fin 17 → ℕ)

/-- What the body takes of the staging buffers and leaves in them. -/
theorem sound_body (Q : PUnit → sProp 𝕄) :
    iprop((records m K ∗ levAts L lv ∗ (bigSep Finset.univ fun j : Fin 17 => pos c j) ∗ payToks c
          ∗ (bigSep Finset.univ fun j : Fin 17 => cred (tallyAt (kcell (c, j)) () (due j))) ∗ scratch c ∗ owing c debts
          ∗ lhsPts c (lhs m c) ∗ rhsPts c (rhs m c) ∗ (∃ f, ((c : Thread nD τ).loc cc0_stg2_0) ↦{fullShare} f))
        ∗ ((Φ₁ c ∗ owing c [] ∗ lhsPts c (lhs m c) ∗ rhsPts c (rhs m c) ∗ (((c : Thread nD τ).loc cc0_stg2_0) ↦{fullShare} (outAll m))) -∗ Q ⟨⟩))
      ⊢ runs c (cc0_body (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10) Q := by
  rw [cc0_body_eq_skeleton]; unfold cc0_body_skel scratch
  iintro ⟨⟨#HR, #HL, Hpos, Htok, Hdue, ⟨⟨%fa, Hacc⟩, ⟨%fh, Hh⟩, ⟨%ff, Hf⟩⟩, HO, Hl, Hr, ⟨%fo, Hout⟩⟩, Hk⟩
  ihave Hpos := (Entails.of_eq (bigSep_cells fun j => pos c j)) $$ Hpos
  icases Hpos with ⟨P0, P1, P2, P3, P4, P5, P6, P7, P8, P9, P10, P11, P12, P13, P14, P15, P16⟩
  ihave Htok := (Entails.of_eq (payToks_eq c)) $$ Htok
  icases Htok with ⟨⟨T0, T1, T2, T3, T4, T5, T6, T7, T8, T9, T10, T11, T12, T13, T14, T15, T16⟩, T0'⟩
  ihave Hdue := (dues c) $$ Hdue
  icases Hdue with ⟨C0, C3, C4, C7, C8, C11, C12, C15, C16⟩
  ihave Hacc := (Entails.of_eq (acc_chunks c fa)) $$ Hacc
  icases Hacc with ⟨Ao, An, Ap, Af⟩
  ihave Hh := (Entails.of_eq (half_slots c fh)) $$ Hh
  icases Hh with ⟨H0, H1⟩
  ihave Hf := (Entails.of_eq (full_slots c ff)) $$ Hf
  icases Hf with ⟨F0, F1⟩
  ihave Hout := (Entails.of_eq (out_chunks c fo)) $$ Hout
  icases Hout with ⟨Oo, On, Op, Of⟩
  ihave Of := (out_rows c (nxt (nxt c)) fullShare fo).1 $$ Of
  icases Of with ⟨Olo, Ohi⟩
  iapply (part1 c); iintro %v2 %v14 %v25 %v28 %v29 %v34
  dsimp only
  iapply (part2 m K c v14 v25 v28 v29 v34) $$ [HO T0 T0' H0 F0 Op Olo H1 F1 On Ohi P0 C0 Hl Hr Af T1 T4]
  · rw [barPay_prv, barPay_nxt]; unfold places
    iframe HR HL HO T0 T0' P0 C0 Hl Hr T1 T4
    isplitl [H0 F0 Op Olo]
    · isplitl [H0]; · iexists _; iexact H0
      isplitl [F0]; · iexists _; iexact F0
      isplitl [Op]; · iexists _; iexact Op
      iexists _; iexact Olo
    isplitl [H1 F1 On Ohi]
    · isplitl [H1]; · iexists _; iexact H1
      isplitl [F1]; · iexists _; iexact F1
      isplitl [On]; · iexists _; iexact On
      iexists _; iexact Ohi
    iexists _; iexact Af
  iintro %v36 ⟨HO, Z0, ⟨Fp, Opo, Oph⟩, ⟨Hn, Fn, Ono, Onl⟩, Hl, Hr, Ah, C1⟩
  dsimp only
  iapply (part3 m K c v2 v14 v25 v36 _) $$ [HO Ah Hn T2 T3 Hl An Ap]
  · iframe HR HO Ah Hn T2 T3 Hl
    isplitl [An]
    · iexists _; iexact An
    iexists _; iexact Ap
  iintro ⟨HO, C2, Hl, An, Ap⟩
  iapply (part4 m K c v2 v25) $$ [HO P3 C3 An]
  · iframe HR HL HO P3 C3 An
  iintro ⟨HO, Z3, H0, An⟩
  iapply (part5 m K c v2 v14) $$ [HO An Fn T5 T7 P4 C4 Ap]
  · iframe HR HL HO An Fn T5 T7 P4 C4 Ap
  iintro ⟨HO, C5, Z4, H1, Ap⟩
  iapply (part6 m K c v2) $$ [HO Ap Fp T6 T8 P7 C7 P8 C8]
  · iframe HR HL HO Ap Fp T6 T8 P7 C7 P8 C8
  iintro ⟨HO, C6, Z7, Z8, F0, F1⟩
  dsimp only
  iapply (part7 m K c v2 v14 v25) $$ [HO Oo Opo Ono T9 T12 T10 T11]
  · iframe HR HO Opo Ono T9 T12 T10 T11
    iexists _; iexact Oo
  iintro ⟨HO, C9, C10⟩
  iapply (part8 m K c v2 v14 v25) $$ [HO P11 C11 P12 C12 Onl T13 T15]
  · iframe HR HL HO P11 C11 P12 C12 Onl T13 T15
  iintro ⟨HO, Z11, Z12, C13, Oph', On⟩
  iapply (part9 m K c v2 v36) $$ [HO On Oph T14 T16 P15 C15 P16 C16 P1 C1]
  · iframe HR HL HO On Oph T14 T16 P15 C15 P16 C16 P1 C1
  iintro ⟨HO, C14, Z15, Z16, Z1, Onl, Ofl, Ofh, Al⟩
  iapply (part10 m K c) $$ [HO P2 C2 P5 C5 P6 C6 P9 C9 P10 C10 P13 C13]
  · iframe HR HL HO P2 C2 P5 C5 P6 C6 P9 C9 P10 C10 P13 C13
  iintro ⟨HO, ⟨Z2, Z5, Z6, Z9, Z10, Z13⟩, Ah, An, Ap, Ol, Or, Opl⟩
  simp only [Prog.lift, Prog.bind_op, Prog.bind_ret, Prog.pure_eq_ret]
  iapply (step_wait m K c 14 (by decide) [] (by decide) rfl outM_credit_half (outPts c (hiRows (nxt c)) fullShare (outAll m)) rfl) $$ [HO P14 C14]
  · iframe HR HL HO P14 C14
  iintro ⟨HO, Z14, Onh⟩
  rw [wp_ret]; imodintro
  iapply Hk
  iframe HO Hl Hr
  isplitr [Ol Or Onl Onh Opl Oph' Ofl Ofh]
  · unfold Φ₁ scratch
    rw [bigSep_cells]
    iframe Z0 Z1 Z2 Z3 Z4 Z5 Z6 Z7 Z8 Z9 Z10 Z11 Z12 Z13 Z14 Z15 Z16
    isplitl [Ao An Ap Al Ah]
    · iapply (acc_join c fa)
      iframe An Ap
      isplitl [Ao]; · iexists _; iexact Ao
      iapply (acc_halves_join c (nxt (nxt c)))
      iframe Al Ah
    isplitl [H0 H1]
    · iexists _; rw [half_slots c (halfAt m c)]; iframe H0 H1
    · iexists _; rw [full_slots c (fullAt m c)]; iframe F0 F1
  · rw [out_chunks]
    isplitl [Ol Or]
    · iapply (out_shares c (rows c) (outAll m)).2; iframe Ol Or
    isplitl [Onl Onh]
    · iapply (out_rows c (nxt c) fullShare (outAll m)).2; iframe Onl Onh
    isplitl [Opl Oph']
    · iapply (out_rows c (prv c) fullShare (outAll m)).2; iframe Opl Oph'
    · iapply (out_rows c (nxt (nxt c)) fullShare (outAll m)).2; iframe Ofl Ofh

/-! ## The library's obligation -/

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost : sProp 𝕄 :=
  iprop(Φ₁ c ∗ (dats m ρ 0 c).owesAt () t0_0.succ ∗ stg c cc0_stg0_0 (lhs m c) ∗ stg c cc0_stg1_0 (rhs m c) ∗ stg c cc0_stg2_0 (outAll m))

theorem body_runs : bodyPre m ρ c ⊢ runs c (cc0_body (Memref.whole cc0_stg0_0) (Memref.isWhole_whole _) (Memref.whole cc0_stg1_0) (Memref.isWhole_whole _) (Memref.whole cc0_stg2_0) (Memref.isWhole_whole _)
          (Memref.whole cc0_scratch0) (Memref.isWhole_whole _) (Memref.whole cc0_scratch1) (Memref.isWhole_whole _) (Memref.whole cc0_scratch2) (Memref.isWhole_whole _)
          cc0_scratch3 cc0_scratch4 cc0_scratch5 cc0_scratch6 cc0_scratch7 cc0_scratch8 cc0_scratch9 cc0_scratch10) (fun _ => bodyPost m ρ c) := by
  unfold bodyPre Φ₀ start dealt
  iintro ⟨⟨⟨⟨%K, #HR, Hpos, Htok⟩, Hdue, #HL⟩, Hscr⟩, Ho, ⟨%d0, %g0, %hg0, Hl⟩, ⟨%d1, %g1, %hg1, Hr⟩, ⟨%d2, %g2, %hg2, Hout⟩⟩
  have h0 : g0 = lhs m c := by rw [hg0]; unfold Dat.before; rw [if_pos (fetch0_0 t0_0)]; rfl
  have h1 : g1 = rhs m c := by rw [hg1]; unfold Dat.before; rw [if_pos (fetch0_1 t0_0)]; rfl
  subst h0 h1
  unfold Dat.owesAt Pipeline.owesWithin
  icases Ho with ⟨%W, %hW, HO⟩
  rw [show (dats m ρ 0 c).owed t0_0.castSucc = owed c debts from rfl]
  iapply (sound_body m c K)
  isplitr []
  · iframe HR HL Hpos Htok Hdue Hscr
    isplitl [HO]; · unfold owing; iexists W; iexact HO
    isplitl [Hl]; · unfold lhsPts; iexact Hl
    isplitl [Hr]; · unfold rhsPts; iexact Hr
    iexists g2; iexact Hout
  unfold owing lhsPts rhsPts
  iintro ⟨HΦ, ⟨%W', HO⟩, Hl, Hr, Hout⟩
  unfold bodyPost Dat.owesAt Pipeline.owesWithin
  rw [show (dats m ρ 0 c).owed t0_0.succ = 0 from rfl]
  iframe HΦ
  isplitl [HO]
  · iexists W'
    isplitr; · ipureintro; exact fun _ _ => Or.inl trivial
    iexact HO
  isplitl [Hl]
  · iexists _; isplitr; · (ipureintro; rfl)
    iexact Hl
  isplitl [Hr]
  · iexists _; isplitr; · (ipureintro; rfl)
    iexact Hr
  iexists _; isplitr; · (ipureintro; rfl)
  iexact Hout

theorem body_obligation : BodyObligation (dats (F := F) m ρ 0 c) (defs₀ (F := F)) 𝒱₀ () Set.univ := fun t => by
  rw [fin_N0 t]
  rw [bigSep_W0, bigSep_W0]
  simp only [owns_whole_eq]
  exact body_runs m ρ c

end Body

end Cert.KernelIdeal.Work

end
-- ==== Proof.Ideal.Launch.lean ====
/-
The launch: the protocol's cells allocated for every device at once, the tokens dealt to their payers, the credits the devices owe one
another, and the run of the whole program from any memory with zero counters.

-/
module

public import proofs.«01_k».proof.Proof.Ideal.Body
public import Idealize.ShloMosaic.Lib.Pipeline.CollectiveSegs

@[expose] public section

set_option maxRecDepth 16384

noncomputable section

namespace Cert.KernelIdeal.Work

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch element -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 17 → GSem nD τ sig) := fun _ _ h =>
  Prod.ext (congrArg (fun g : GSem nD τ sig => g.1.1) h) (csem_injective (congrArg Prod.snd h))
def protoCells : Finset (GSem nD τ sig) := Finset.univ.map ⟨kcell, kcell_injective⟩

/-- The minted tokens: each cell's duty `false`, and (`none`) the barrier's duty `true`. -/
def tokOf (cj : Dev nD × Option (Fin 17)) : GSem nD τ sig × ℕ × Bool := (kcell (cj.1, cj.2.getD 0), 0, cj.2.isNone)
theorem tokOf_injective : Function.Injective tokOf := by
  rintro ⟨c, j⟩ ⟨c', j'⟩ h
  have h1 : (c, j.getD 0) = (c', j'.getD 0) := kcell_injective (congrArg Prod.fst h)
  have h2 : j.isNone = j'.isNone := congrArg (fun x : GSem nD τ sig × ℕ × Bool => x.2.2) h
  have h3 : c = c' := congrArg Prod.fst h1
  have h4 : j.getD 0 = j'.getD 0 := congrArg Prod.snd h1
  refine Prod.ext h3 ?_
  cases j <;> cases j'
  · rfl
  · exact absurd h2 Bool.noConfusion
  · exact absurd h2 Bool.noConfusion
  · exact congrArg some h4
def protoToks : Finset (GSem nD τ sig × ℕ × Bool) := Finset.univ.map ⟨tokOf, tokOf_injective⟩

def u₀ : UU := (initOf (Pipeline.cells cfgs cellOf_inj) (Pipeline.launchToks cfgs cellOf_inj), initOf protoCells protoToks)

/-- The tokens of the own cells. -/
def ownToks (c : Dev nD) : sProp 𝕄 := iprop((bigSep Finset.univ fun j : Fin 17 => tok c j false) ∗ tok c 0 true)

/-- The share of the launch element that belongs to device `c`. -/
def G (c : Dev nD) : sProp 𝕄 :=
  iprop((bigSep Finset.univ fun j : Fin 17 => roundState ER (Rd m) (kcell (c, j)) 0)
    ∗ (bigSep Finset.univ fun j : Fin 17 => iprop(pos c j ∗ reached ER (kcell (c, j)) 0)) ∗ ownToks c)

theorem ownToks_eq (c : Dev nD) : (ownToks c : sProp 𝕄)
    = bigSep Finset.univ fun j : Option (Fin 17) => dutyTok ER (tokOf (c, j)).1 (tokOf (c, j)).2.1 (tokOf (c, j)).2.2 := by
  rw [bigSep_univ_at _ (none : Option (Fin 17)), show (Finset.univ.erase none : Finset (Option (Fin 17))) = Finset.univ.map ⟨some, Option.some_injective _⟩ by decide,
    BI.bigSep_map]
  unfold ownToks
  show iprop((bigSep Finset.univ fun j : Fin 17 => tok c j false) ∗ tok c 0 true) = iprop(tok c 0 true ∗ bigSep Finset.univ fun j : Fin 17 => tok c j false)
  exact BI.equiv_iff.mp ⟨BI.sep_comm, BI.sep_comm⟩

theorem fund_protocol : BI.own (ER (initOf protoCells protoToks)) ⊢ (|==> bigSep Finset.univ (G m) : sProp 𝕄) := by
  have hcell (Φ : GSem nD τ sig → sProp 𝕄) : bigSep protoCells Φ = bigSep Finset.univ fun c : Dev nD => bigSep Finset.univ fun j : Fin 17 => Φ (kcell (c, j)) := by
    unfold protoCells; rw [BI.bigSep_map, bigSep_univ_prod]; rfl
  have htok : bigSep protoToks (fun x => (dutyTok ER x.1 x.2.1 x.2.2 : sProp 𝕄)) = bigSep Finset.univ fun c : Dev nD => ownToks c := by
    unfold protoToks; rw [BI.bigSep_map, bigSep_univ_prod]
    exact bigSep_congr fun c _ => (ownToks_eq c).symm
  iintro HX
  imod (Rounds.fund ER (Rd m) protoCells protoToks) $$ HX with ⟨Hst, Hr, Hat, Htok⟩
  imodintro
  ihave Hst := (Entails.of_eq (hcell fun g => roundState ER (Rd m) g 0)) $$ Hst
  ihave Hat := (Entails.of_eq (hcell fun g => atPos ER g 0 ∅ 0)) $$ Hat
  ihave Hr := (Entails.of_eq (hcell fun g => reached ER g 0)) $$ Hr
  ihave Htok := (Entails.of_eq htok) $$ Htok
  unfold G; simp only [bigSep_sep']
  iframe Hst Hat Hr Htok

/-! ## The cells' invariants -/

theorem bigSep_cells_succ (Φ : Fin 17 → sProp 𝕄) : bigSep Finset.univ Φ = iprop(Φ 0 ∗ bigSep Finset.univ fun k : Fin 16 => Φ k.succ) := by
  rw [bigSep_univ_at _ (0 : Fin 17), show (Finset.univ.erase 0 : Finset (Fin 17)) = Finset.univ.map ⟨Fin.succ, Fin.succ_injective 16⟩ by decide, BI.bigSep_map]
  rfl

theorem kcell_succ (c : Dev nD) (k : Fin 16) : kcell (c, k.succ) = ((c : Thread nD τ), osem k) := by
  show ((c : Thread nD τ), csem k.succ) = _
  unfold csem
  rw [dif_neg (Fin.succ_ne_zero k), Fin.pred_succ]

theorem unscopedSems0_eq (c : Dev nD) : (unscopedSems0 c : sProp 𝕄) = done c 0 := by
  unfold unscopedSems0; rw [bigSep_eq_bigSepL_of_eq [SemLoc.reg barS] (by decide) (by decide)]; rfl

/-- The launch's counters at zero are the protocol's cells' counters at zero. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun j : Fin 17 => done c j : sProp 𝕄) := by
  rw [unscopedSems0_eq, bigSep_cells_succ]
  unfold Pipeline.ownSems0
  congr 1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 17 => iprop(∃ κ : ℕ, cellInv ER (Rd m) κ (kcell (c, j))))
          ∗ (bigSep Finset.univ fun j : Fin 17 => iprop(pos c j ∗ reached ER (kcell (c, j)) 0)) ∗ ownToks c) := by
  unfold G
  iintro ⟨Hos, Hus, Hst, Hat, Htok⟩
  ihave Hv := (Entails.of_eq (sems0_eq (F := F) c)) $$ [Hos Hus]
  · iframe Hos Hus
  have halloc : iprop((bigSep Finset.univ fun j : Fin 17 => done c j) ∗ bigSep Finset.univ fun j : Fin 17 => roundState ER (Rd m) (kcell (c, j)) 0)
      ⊢ (|={Set.univ}=> bigSep Finset.univ fun j : Fin 17 => iprop(∃ κ : ℕ, cellInv ER (Rd m) κ (kcell (c, j))) : sProp 𝕄) := by
    rw [← bigSep_sep']
    exact (bigSep_mono fun j _ => (Rounds.body_intro ER (Rd m) (kcell (c, j))).trans inv_alloc).trans (bigSep_fupd _ _)
  imod halloc $$ [Hv Hst] with Hinv
  · iframe Hv Hst
  imodintro
  iframe Hinv Hat Htok

/-- Two conjunctions over everything in the other order. -/
theorem bigSep_swap {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]; rfl

/-- Each token to its payer, around the ring. -/
theorem toks_around : (bigSep Finset.univ fun c : Dev nD => (ownToks c : sProp 𝕄)) = bigSep Finset.univ fun c : Dev nD => payToks c := by
  unfold ownToks payToks
  rw [bigSep_sep', bigSep_sep', bigSep_swap, bigSep_swap (fun c (j : Fin 17) => tok (way j.val c) j false),
    bigSep_univ_equiv ring.symm (fun c : Dev nD => (tok c 0 true : sProp 𝕄))]
  congr 1
  exact bigSep_congr fun j _ => bigSep_univ_equiv (way j.val) (fun c : Dev nD => (tok c j false : sProp 𝕄))

theorem regroup :
    (bigSep Finset.univ fun c : Dev nD => iprop((bigSep Finset.univ fun j : Fin 17 => iprop(∃ κ : ℕ, cellInv ER (Rd m) κ (kcell (c, j))))
          ∗ (bigSep Finset.univ fun j : Fin 17 => iprop(pos c j ∗ reached ER (kcell (c, j)) 0)) ∗ ownToks c) : sProp 𝕄)
      ⊢ bigSep Finset.univ (dealt m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun j : Fin 17 => (pos c j : sProp 𝕄)) (fun j => reached ER (kcell (c, j)) 0)),
    bigSep_sep', ← bigSep_univ_prod (fun ck : Dev nD × Fin 17 => (reached ER (kcell ck) 0 : sProp 𝕄)), toks_around]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  have hdeal (c : Dev nD) : iprop(records m K ∗ ((bigSep Finset.univ fun j : Fin 17 => pos c j) ∗ payToks c)) ⊢ dealt m c := by
    unfold dealt
    iintro H; iexists K; iexact H
  iapply (bigSep_with_persistent (R := records m K) fun c _ => hdeal c)
  isplitr
  · unfold records; iframe HI HR
  · rw [bigSep_sep']
    iframe Hat Htok

/-- Every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (dealt m) :=
  ((bigSep_mono fun c _ => core_alloc m c).trans (bigSep_fupd _ _)).trans (BI.fupd_mono (regroup m))

/-! ## The launch credit -/

theorem nb_injective (b : Bool) {d d' : Dev nD} (h : nb d b = nb d' b) : d = d' := by
  cases b
  · exact ring.symm.injective h
  · exact ring.injective h
/-- The device on whose side `b` the device `c` is. -/
theorem nb_not (c : Dev nD) (b : Bool) : nb (nb c (!b)) b = c := by
  cases b
  · exact prv_nxt c
  · exact nxt_prv c

/-- One payment of every device, at a cell. -/
theorem sum_tally (c : Dev nD) (j : Fin 17) (p : Bool × Fin 17) :
    ∑ d : Dev nD, (tallyAt (kcell (nb d p.1, p.2)) () (amt p.2.val) : CellTallies nD τ sig Unit) (kcell (c, j)) () = if p.2 = j then amt j.val else 0 := by
  by_cases h : p.2 = j
  · rw [if_pos h, Finset.sum_eq_single (nb c (!p.1)), tallyAt_apply, nb_not, h, if_pos ⟨rfl, rfl⟩]
    · intro d _ hd
      rw [tallyAt_apply, if_neg]
      rintro ⟨e, -⟩
      exact hd (nb_injective p.1 ((congrArg Prod.fst (kcell_injective e)).symm.trans (nb_not c p.1).symm))
    · intro hn; exact absurd (Finset.mem_univ _) hn
  · rw [if_neg h]
    refine Finset.sum_eq_zero fun d _ => ?_
    rw [tallyAt_apply, if_neg]
    rintro ⟨e, -⟩
    exact h (congrArg Prod.snd (kcell_injective e)).symm

/-- The payments `l` of every device, at a cell. -/
theorem sum_owed (c : Dev nD) (j : Fin 17) (l : List (Bool × Fin 17)) :
    ∑ d : Dev nD, owed d l (kcell (c, j)) () = (l.countP fun p => p.2 = j) * amt j.val := by
  induction l with
  | nil => rw [List.countP_nil, Nat.zero_mul]; exact Finset.sum_eq_zero fun d _ => rfl
  | cons p l ih =>
    have hadd (d : Dev nD) : owed d (p :: l) (kcell (c, j)) () = owed d l (kcell (c, j)) () + (tallyAt (kcell (nb d p.1, p.2)) () (amt p.2.val) : CellTallies nD τ sig Unit) (kcell (c, j)) () := rfl
    rw [Finset.sum_congr rfl fun d _ => hadd d, Finset.sum_add_distrib, ih, sum_tally, List.countP_cons, Nat.add_mul]
    congr 1
    by_cases h : p.2 = j <;> simp [h]

theorem launch_due (c : Dev nD) (j : Fin 17) :
    tallyOn (kcell (c, j)) (launchCredit (Pipeline.owing fun d => owed d debts) 0 (kcell (c, j))) = (tallyAt (kcell (c, j)) () (due j) : CellTallies nD τ sig Unit) := by
  unfold tallyAt; refine congrArg _ (Finsupp.ext fun u => ?_); cases u
  rw [Pipeline.launchCredit_owing, Finsupp.single_eq_same, sum_owed]; rfl

theorem creds (c : Dev nD) :
    (Pipeline.launchCred (fun d => owed d debts) c : sProp 𝕄) ⊢ bigSep Finset.univ fun j : Fin 17 => cred (tallyAt (kcell (c, j)) () (due j)) := by
  unfold Pipeline.launchCred
  refine (BI.bigSep_subset (Finset.subset_univ (Finset.univ.map ⟨csem, csem_injective⟩))).trans ?_
  rw [BI.bigSep_map]
  exact bigSep_mono fun j _ => Entails.of_eq (congrArg cred (launch_due c j))

/-! ## The run -/

theorem start_intro (c : Dev nD) :
    iprop(Pipeline.unscopedRestP Pipeline.Prefetch.none cfg0.spec c (fun b => m ((c : Thread nD τ).loc b)) ∗ levAts L lv
        ∗ Pipeline.launchCred (fun d => owed d debts) c ∗ prngReg c (ρ c) ∗ dealt m c)
      ⊢ |={Set.univ}=> iprop(start m c ∗ emp) := by
  iintro ⟨-, Hlev, Hcr, -, HG⟩
  ihave Hc := (creds (F := F) c) $$ Hcr
  imodintro
  unfold start
  iframe HG Hc Hlev

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  iframe Hs Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [← sems0_eq]
  iintro ⟨Hr, Hu, Hs⟩
  iframe Hr Hu Hs

theorem waits (c : Dev nD) : (levAts L lv : sProp 𝕄) ⊢ Pipeline.cellsWaits cfgs (dats m ρ) () 0 c :=
  Pipeline.cellsWaits_intro cfgs (dats m ρ) () 0 c fun w s t => by
    have h0 : lvk (cellIx (.dma ((cfg0.win w).sem s))) ≤ 0 := by revert s; revert w; decide
    rcases t with ⟨_ | _, ht⟩
    · exact mayWait c _ 0 debts h0 (by decide)
    · exact mayWait c _ 0 [] h0 (by decide)

/-- What an array of the launch holds at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the program on the four devices terminates, and every final state
    has each array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d debts) (howed₀ := fun _ => rfl) (howedN := fun _ => rfl)
    (L := L) (lv := lv) (hL := L_of_ne) (hwaits := waits m ρ)
    (G := G m) (G' := dealt m) (u₀ := u₀)
    (hu₀ := by
      unfold u₀
      iintro Hu
      ihave H := (ownU_pair _ _) $$ Hu
      icases H with ⟨HP, HX⟩
      imod (fund_protocol m) $$ HX with HG
      imodintro
      iframe HP HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      iframe Hu HSI)
    (hQ := fun _ h hs => ⟨fun c w => (h c).1 w, sem_eq_zero hs fun c => (h c).2.2⟩)

/-! ## The final arrays -/

/-- The operands are what they were. -/
theorem finalA_lhs (c : Dev nD) : finalA m ρ c (0 : Fin 3) = m ((c : Thread nD τ).loc main_arg0) := (dats (F := F) m ρ 0 c).arrAt_in (0 : Fin 3) rfl _
theorem finalA_rhs (c : Dev nD) : finalA m ρ c (1 : Fin 3) = m ((c : Thread nD τ).loc main_arg1) := (dats (F := F) m ρ 0 c).arrAt_in (1 : Fin 3) rfl _

/-- The result array's one block is all of it: what the body left in the staging buffer. -/
theorem finalA_out (c : Dev nD) : finalA m ρ c (2 : Fin 3) = outAll m := by
  have hz : (fun a => (win0_2.index (0 : Fin 1)) a * main_v1.ty.shape.size a) = fun _ => 0 := funext fun a => by fin_cases a <;> decide
  have hr := fun f => Memref.read_access_unit_zero (Elt F) main_v1 hz (fun a => by fin_cases a <;> decide) f
  refine (hr _).symm.trans ?_
  unfold finalA
  rw [show cfg0.N = ((0 : Fin 1) : Fin cfg0.N).val + 1 from rfl, (dats m ρ 0 c).arrAt_succ (2 : Fin 3) (0 : Fin 1), if_pos (flush0_2 (0 : Fin 1))]
  exact View.read_write_univ _ _

/-- The staging buffers of the operands hold the whole arrays. -/
theorem lhs_eq (c : Dev nD) : lhs m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem rhs_eq (c : Dev nD) : rhs m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _

end Cert.KernelIdeal.Work

end
-- ==== Proof.Value.Arith.lean ====
/-
The kernel's arithmetic over the extended reals, one element at a time: a chunk of a product is a sum of 512 products, adding two
arrays adds their elements, and the activation is the quotient the reference writes.
-/
module

public import proofs.«01_k».proof.Proof.Ideal.Contents
public import Idealize.ShloMosaic.PureOps.Ideal.Laws
public import Idealize.ShloMosaic.Lib.IdealHost
public import Idealize.ShloMosaic.Lib.MatmulPlain
public import Idealize.ShloMosaic.Lib.Pipeline.Value

@[expose] public section

set_option maxRecDepth 16384

noncomputable section

namespace Cert.KernelIdeal.Work

open Cert.KernelIdeal Cert.KernelIdeal.Gen
open Idealize.ShloMosaic Idealize.ShloMosaic.ValueIdx
open scoped BigOperators

/-- A chunk of a product at row `x 0` and column `x 1`: the sum over the 512 contracted positions. -/
theorem product_apply (B : Vec Ideal S512x1024 .bf16) (X : Vec Ideal S256x512 .bf16) (x : S256x1024.Idx) :
    k0_pay5 (k0_pay1 B) X x = ∑ k : Fin 512, X (ix2 (x 0) k) * B (ix2 k (x 1)) := by
  obtain ⟨a, b, rfl⟩ : ∃ (a : Fin 256) (b : Fin 1024), x = ix2 a b := ⟨x 0, x 1, eq_ix2 x⟩
  unfold k0_pay5 k0_pay1
  simp only [shapeCast_self]
  refine (Ideal.matmul_plain_apply (M := 256) (K := 512) (N := 1024) none X B _ a b).trans ?_
  rw [show constant (F := Ideal) S256x1024 .f32 0x00000000#32 (ix2 a b) = 0 from Ideal.ofBits_zero_f32, zero_add]

/-- The stored product is the same sum: rounding is the identity here. -/
theorem stored_apply (B : FVec Ideal S512x1024 .bf16) (X : Vec Ideal S256x512 .bf16) (x : S256x1024.Idx) :
    k0_pay3 B X x = k0_pay5 B X x := by
  unfold k0_pay3 k0_pay5
  simp only [shapeCast_self]
  rfl

/-- A half chunk plus the one that landed, in either direction. -/
theorem join_hi_apply (P : Vec Ideal S128x1024 .bf16) (H : Vec Ideal S1x128x1024 .bf16) (x : S128x1024.Idx) :
    k0_pay6 P H x = P x + H (ix3 0 (x 0) (x 1)) := by
  obtain ⟨a, b, rfl⟩ : ∃ (a : Fin 128) (b : Fin 1024), x = ix2 a b := ⟨x 0, x 1, eq_ix2 x⟩
  unfold k0_pay6
  simp only [shapeCast_self]
  refine congrArg (P (ix2 a b) + ·) ((shapeCast_dropUnit_apply ![128, 1024] H _ (ix2 a b)).trans (congrArg H ?_))
  funext i; fin_cases i <;> rfl
theorem join_lo_apply (P : Vec Ideal S128x1024 .bf16) (H : Vec Ideal S1x128x1024 .bf16) (x : S128x1024.Idx) :
    k0_pay7 P H x = P x + H (ix3 0 (x 0) (x 1)) := join_hi_apply P H x

/-- The owner's chunk plus the two whole chunks that landed. -/
theorem gather_apply (O : FVec Ideal S256x1024 .f32) (U V : Vec Ideal S1x256x1024 .bf16) (x : S256x1024.Idx) :
    k0_pay8 O U V x = O x + U (ix3 0 (x 0) (x 1)) + V (ix3 0 (x 0) (x 1)) := by
  obtain ⟨a, b, rfl⟩ : ∃ (a : Fin 256) (b : Fin 1024), x = ix2 a b := ⟨x 0, x 1, eq_ix2 x⟩
  have h (W : Vec Ideal S1x256x1024 .bf16) : shapeCast S256x1024 W shapeCasts_S1x256x1024_S256x1024 (ix2 a b) = W (ix3 0 a b) :=
    (shapeCast_dropUnit_apply ![256, 1024] W _ (ix2 a b)).trans (congrArg W (by funext i; fin_cases i <;> rfl))
  exact congrArg₂ (· + ·) (congrArg (O (ix2 a b) + ·) (h U)) (h V)

/-- One plus an exponential is not zero. -/
theorem one_add_exp_ne_zero (z : EReal) : 1 + Ideal.exp z ≠ 0 := by
  have h : (0 : EReal) ≤ Ideal.exp z := by
    induction z with
    | bot => exact le_refl _
    | top => exact le_top
    | coe r => exact EReal.coe_nonneg.mpr (Real.exp_pos r).le
  intro e
  have h1 : (1 : EReal) ≤ 1 + Ideal.exp z := le_add_of_nonneg_right h
  rw [e] at h1
  exact absurd h1 (by simp)

/-- The activation of a sum `z`, as the reference writes it. -/
def silu (z : EReal) : EReal := Ideal.div z (1 + Ideal.exp (-z))

/-- The kernel's activation — the sum times a reciprocal — is that quotient. -/
theorem activation_apply (O : FVec Ideal S256x1024 .f32) (U V : Vec Ideal S1x256x1024 .bf16) (x : S256x1024.Idx) :
    k0_pay10 (k0_pay8 O U V) (k0_pay9 O U V) (Scalar.ofBits .f32 0x3F800000#32) x = silu (k0_pay8 O U V x) := by
  generalize hz : k0_pay8 O U V x = z
  have h9 : k0_pay9 O U V x = Ideal.exp (-z) := by
    rw [← hz, ← zero_sub, ← Ideal.ofBits_zero_f32]; rfl
  have h10 : k0_pay10 (k0_pay8 O U V) (k0_pay9 O U V) (Scalar.ofBits .f32 0x3F800000#32) x
      = k0_pay8 O U V x * Ideal.div (Ideal.ofBits .f32 0x3F800000#32) (Ideal.ofBits .f32 0x3F800000#32 + k0_pay9 O U V x) := rfl
  rw [h10, h9, hz, Ideal.ofBits_one_f32]
  exact Ideal.mul_one_div (one_add_exp_ne_zero _)

end Cert.KernelIdeal.Work

end
-- ==== Proof.Value.Sums.lean ====
/-
What the result array holds over the extended reals: at each row and column the activation of the sum of the four devices' partial
products, whichever way round the ring they came.
-/
module

public import proofs.«01_k».proof.Proof.Value.Arith

@[expose] public section

set_option maxRecDepth 16384

noncomputable section

namespace Cert.KernelIdeal.Work

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

/-- A product of a 1024 × 512 array and a 512 × 1024 one, at a row and a column. -/
def prodAt (X : S1024x512.Idx → EReal) (W : S512x1024.Idx → EReal) (i : S1024x1024.Idx) : EReal :=
  ∑ k : Fin 512, X (ix2 (i 0) k) * W (ix2 k (i 1))

/-- Device `c`'s part of the product at a row and a column: its 512 of the 2048 contracted positions. -/
def share (c : Dev nD) (i : S1024x1024.Idx) : EReal := prodAt (lhs m c) (rhs m c) i

variable {m}

/-- A chunk of device `c`'s product holds its part. -/
theorem chunk_share (c : Dev nD) {q : ℕ} (hq : q < 4) (x : S256x1024.Idx) :
    k0_pay5 (k0_pay1 (rhs m c)) (lhsRows m c q) x = share m c (atA (256 * q + (x 0).val) (x 1).val) := by
  have hx : (x 0).val < 256 := (x 0).isLt
  have hy : (x 1).val < 1024 := (x 1).isLt
  rw [product_apply]
  unfold share prodAt
  refine Finset.sum_congr rfl fun k _ => congrArg₂ (· * ·) (congrArg (lhs m c) ?_) (congrArg (rhs m c) ?_)
  · exact (eq_atX (ix2 (atA (256 * q + (x 0).val) (x 1).val 0) k) (a := 256 * q + (x 0).val) (b := k.val) (atA_row (by omega)).symm rfl).symm
  · exact congrArg (ix2 k) (Fin.ext (atA_col hy).symm)

/-- So does the stored product everywhere, -/
theorem partAt_eq (c : Dev nD) (i : S1024x1024.Idx) : partAt m c i = share m c i := by
  have hx : (i 0).val < 1024 := (i 0).isLt
  have hy : (i 1).val < 1024 := (i 1).isLt
  unfold partAt
  rw [stored_apply, chunk_share c (by omega)]
  refine congrArg (share m c) (eq_atA i ?_ ?_).symm
  · show 256 * ((i 0).val / 256) + (i 0).val % 256 = (i 0).val; omega
  · show (i 1).val % 1024 = (i 1).val; omega

/-- and the owner's chunk. -/
theorem ownRows_eq (c : Dev nD) (x : S256x1024.Idx) : ownRows m c x = share m c (atA (256 * c.val + (x 0).val) (x 1).val) :=
  chunk_share c c.isLt x

/-- What a device passes on of its next neighbour's chunk: in the upper half its own part and the part of the device before it, -/
theorem redAt_nxt (c : Dev nD) {a b : ℕ} (ha : a < 256) (hb : b < 1024) :
    redAt m c (atA (256 * (nxt c).val + a) b)
      = share m c (atA (256 * (nxt c).val + a) b) + if a < 128 then 0 else share m (prv c) (atA (256 * (nxt c).val + a) b) := by
  have hq : (nxt c).val < 4 := (nxt c).isLt
  split_ifs with h
  · rw [add_zero, ← partAt_eq]
    refine (redAt_nxt_rest c _ ?_ ?_).symm
    · rw [mem_band, atA_row (by omega)]; omega
    · rw [mem_band, atA_row (by omega)]; omega
  · have e : 256 * (nxt c).val + a = 256 * (nxt c).val + 128 + (a - 128) := by omega
    have ha' : a - 128 < 128 := by omega
    have hr : (atT (a - 128) b 0).val = a - 128 := Nat.mod_eq_of_lt ha'
    have hc : (atT (a - 128) b 1).val = b := Nat.mod_eq_of_lt hb
    have := redAt_hi (m := m) c (atT (a - 128) b)
    rw [hr, hc] at this
    rw [e, this, join_hi_apply]
    refine congrArg₂ (· + ·) ?_ ?_
    · show partAt m c (atA (256 * (nxt c).val + 128 + (atT (a - 128) b 0).val) (atT (a - 128) b 1).val) = _
      rw [hr, hc, partAt_eq]
    · show halfAt m c (atH 0 (atT (a - 128) b 0).val (atT (a - 128) b 1).val) = _
      rw [hr, hc, halfAt_zero c (by omega) hb, partAt_eq]

/-- and of the chunk of the one before it: in the lower half its own part and the part of the device after it. -/
theorem redAt_prv (c : Dev nD) {a b : ℕ} (ha : a < 256) (hb : b < 1024) :
    redAt m c (atA (256 * (prv c).val + a) b)
      = share m c (atA (256 * (prv c).val + a) b) + if a < 128 then share m (nxt c) (atA (256 * (prv c).val + a) b) else 0 := by
  have hq : (prv c).val < 4 := (prv c).isLt
  split_ifs with h
  · have hr : (atT a b 0).val = a := Nat.mod_eq_of_lt h
    have hc : (atT a b 1).val = b := Nat.mod_eq_of_lt hb
    have := redAt_lo (m := m) c (atT a b)
    rw [hr, hc] at this
    rw [this, join_lo_apply]
    refine congrArg₂ (· + ·) ?_ ?_
    · show partAt m c (atA (256 * (prv c).val + (atT a b 0).val) (atT a b 1).val) = _
      rw [hr, hc, partAt_eq]
    · show halfAt m c (atH 1 (atT a b 0).val (atT a b 1).val) = _
      rw [hr, hc, halfAt_one c h hb, partAt_eq]
  · rw [add_zero, ← partAt_eq]
    refine (redAt_prv_rest c _ ?_ ?_).symm
    · rw [mem_band, atA_row (by omega)]; omega
    · rw [mem_band, atA_row (by omega)]; omega

/-- A sum over the devices, taken from one of them around the ring. -/
theorem sum_around (p : Dev nD → EReal) (c : Dev nD) : ∑ d, p d = p c + p (prv c) + p (nxt c) + p (nxt (nxt c)) := by
  have h : ∑ d, p d = p 0 + p 1 + p 2 + p 3 := Fin.sum_univ_four p
  have hp : prv 0 = 3 ∧ prv 1 = 0 ∧ prv 2 = 1 ∧ prv 3 = 2 := by decide
  have hn : nxt 0 = 1 ∧ nxt 1 = 2 ∧ nxt 2 = 3 ∧ nxt 3 = 0 := by decide
  obtain ⟨p0, p1, p2, p3⟩ := hp
  obtain ⟨n0, n1, n2, n3⟩ := hn
  rcases (show c = 0 ∨ c = 1 ∨ c = 2 ∨ c = 3 by revert c; decide) with rfl | rfl | rfl | rfl <;>
    simp only [h, p0, p1, p2, p3, n0, n1, n2, n3] <;> ac_rfl

/-- The owner's three summands are the four devices' parts: the far device's comes with one neighbour's or with the other's. -/
theorem gathered (c : Dev nD) (x : S256x1024.Idx) :
    k0_pay8 (ownRows m c) (fullSlot m c 0) (fullSlot m c 1) x = ∑ d, share m d (atA (256 * c.val + (x 0).val) (x 1).val) := by
  have hx : (x 0).val < 256 := (x 0).isLt
  have hy : (x 1).val < 1024 := (x 1).isLt
  have h0 : fullSlot m c 0 (ix3 0 (x 0) (x 1)) = redAt m (prv c) (atA (256 * c.val + (x 0).val) (x 1).val) := fullAt_zero c hx hy
  have h1 : fullSlot m c 1 (ix3 0 (x 0) (x 1)) = redAt m (nxt c) (atA (256 * c.val + (x 0).val) (x 1).val) := fullAt_one c hx hy
  have e0 := redAt_nxt (m := m) (prv c) hx hy
  have e1 := redAt_prv (m := m) (nxt c) hx hy
  rw [nxt_prv] at e0
  rw [prv_nxt] at e1
  rw [gather_apply, h0, h1, ownRows_eq, e0, e1, prv_prv, sum_around _ c]
  split_ifs
  · rw [add_zero]; ac_rfl
  · rw [add_zero]; ac_rfl

/-- The result array, at a row and a column. -/
theorem outAll_eq (i : S1024x1024.Idx) : outAll m i = silu (∑ d, share m d i) := by
  have hx : (i 0).val < 1024 := (i 0).isLt
  have hy : (i 1).val < 1024 := (i 1).isLt
  unfold outAll outRows
  rw [activation_apply, gathered]
  refine congrArg (fun j => silu (∑ d, share m d j)) (eq_atA i ?_ ?_).symm
  · show 256 * ((i 0).val / 256 % 4) + (i 0).val % 256 = (i 0).val; omega
  · show (i 1).val % 1024 = (i 1).val; omega

end Cert.KernelIdeal.Work

end
-- ==== Proof.Value.Whole.lean ====
/-
The result array when each device holds its block of two whole operands: the 2048 contracted positions of the whole product are the
four devices' 512 each.
-/
module

public import proofs.«01_k».proof.Proof.Value.Sums
public import proofs.«01_k».proof.ReferenceIdeal
public import Idealize.ShloMosaic.Lib.Layout

@[expose] public section

set_option maxRecDepth 16384

noncomputable section

namespace Cert.KernelIdeal.Work

open Cert.KernelIdeal Cert.KernelIdeal.Gen
open Idealize.ShloMosaic Idealize.ShloMosaic.TcCoe Idealize.ShloMosaic.ValueIdx
open scoped BigOperators

/-- The whole product at a row and a column. -/
def whole (A : FVec Ideal ReferenceIdeal.S1024x2048 .bf16) (B : FVec Ideal ReferenceIdeal.S2048x1024 .bf16) (i : S1024x1024.Idx) : EReal :=
  ∑ k : Fin 2048, A (ix2 (i 0) k) * B (ix2 k (i 1))

/-- A sum over 2048 positions, 512 at a time. -/
theorem sum_four (f : Fin 2048 → EReal) :
    ∑ k, f k = ∑ d : Fin 4, ∑ k : Fin 512, f ⟨d.val * 512 + k.val, by omega⟩ := by
  rw [← Equiv.sum_comp (finProdFinEquiv (m := 4) (n := 512)) f, Fintype.sum_prod_type]
  refine Finset.sum_congr rfl fun d _ => Finset.sum_congr rfl fun k _ => congrArg f (Fin.ext ?_)
  show k.val + 512 * d.val = d.val * 512 + k.val
  omega

variable {m : (ℓ : Loc nD τ sig) → Buf (Elt Ideal) ℓ}

/-- When each device holds its block of the two whole operands, the devices' parts sum to the whole product. -/
theorem shares_whole (A : FVec Ideal ReferenceIdeal.S1024x2048 .bf16) (B : FVec Ideal ReferenceIdeal.S2048x1024 .bf16)
    (hA : ∀ c : Dev nD, lhs m c = Layout.block S1024x512 ReferenceIdeal.S1024x2048 1 4 c A)
    (hB : ∀ c : Dev nD, rhs m c = Layout.block S512x1024 ReferenceIdeal.S2048x1024 0 4 c B) (i : S1024x1024.Idx) :
    ∑ d, share m d i = whole A B i := by
  unfold whole
  rw [sum_four]
  refine Finset.sum_congr rfl fun d _ => ?_
  unfold share prodAt
  rw [hA d, hB d]
  refine Finset.sum_congr rfl fun k _ => congrArg₂ (· * ·) (congrArg A ?_) (congrArg B ?_)
  · funext a; fin_cases a <;> rfl
  · funext a; fin_cases a <;> rfl

/-- The result array, at a row and a column: the activation of the whole product. -/
theorem outAll_whole (A : FVec Ideal ReferenceIdeal.S1024x2048 .bf16) (B : FVec Ideal ReferenceIdeal.S2048x1024 .bf16)
    (hA : ∀ c : Dev nD, lhs m c = Layout.block S1024x512 ReferenceIdeal.S1024x2048 1 4 c A)
    (hB : ∀ c : Dev nD, rhs m c = Layout.block S512x1024 ReferenceIdeal.S2048x1024 0 4 c B) (i : S1024x1024.Idx) :
    outAll m i = silu (whole A B i) := by
  rw [outAll_eq, shares_whole A B hA hB]

end Cert.KernelIdeal.Work

end
-- ==== Proof.Value.Reference.lean ====
/-
What the reference computes over the extended reals, at a row and a column: the activation of the whole product.
-/
module

public import proofs.«01_k».proof.Proof.Value.Whole
public import proofs.«01_k».proof.Proof.Gen.ReferenceIdeal.Run

@[expose] public section

set_option maxRecDepth 16384

noncomputable section

namespace Cert.ReferenceIdeal.Work

open Cert.ReferenceIdeal Cert.ReferenceIdeal.Gen Cert.KernelIdeal.Work
open Idealize.ShloMosaic Idealize.ShloMosaic.ValueIdx

/-- The reference's product of its two operands. -/
def product (A : FVec Ideal S1024x2048 .bf16) (B : FVec Ideal S2048x1024 .bf16) : FVec Ideal S1024x1024 .f32 :=
  Host.dotGeneral dot_S1024x2048_S2048x1024_S1024x1024_1_0_0_1_n_n none (extf .f32 A bitsLt_bf16_f32) (extf .f32 B bitsLt_bf16_f32)

/-- What the reference's result holds: the quotient of that product and one plus the exponential of its negation, rounded. -/
def result (A : FVec Ideal S1024x2048 .bf16) (B : FVec Ideal S2048x1024 .bf16) : FVec Ideal S1024x1024 .bf16 :=
  truncf .bf16 (Host.divf (product A B)
    (addf (broadcastInDim S1024x1024 ![] bcast_S_S1024x1024 (constant S_ .f32 0x3F800000#32)) (Host.exp (Host.negf (product A B))))) bitsLt_bf16_f32

/-- The product at a row and a column is the sum over the 2048 contracted positions. -/
theorem product_apply (A : FVec Ideal S1024x2048 .bf16) (B : FVec Ideal S2048x1024 .bf16) (i : S1024x1024.Idx) :
    product A B i = whole A B i := by
  obtain ⟨a, b, rfl⟩ : ∃ (a b : Fin 1024), i = ix2 a b := ⟨i 0, i 1, eq_ix2 i⟩
  refine (Ideal.matmul_plain_apply (M := 1024) (K := 2048) (N := 1024) (φ₁ := .f32) (φ₂ := .f32) none A B (fun _ => 0) a b).trans ?_
  rw [zero_add]
  rfl

/-- The result at a row and a column. -/
theorem result_apply (A : FVec Ideal S1024x2048 .bf16) (B : FVec Ideal S2048x1024 .bf16) (i : S1024x1024.Idx) :
    result A B i = silu (whole A B i) := by
  have h : result A B i = Ideal.div (product A B i) (Ideal.ofBits .f32 0x3F800000#32 + Ideal.exp (-(product A B i))) := rfl
  rw [h, product_apply, Ideal.ofBits_one_f32]
  rfl

end Cert.ReferenceIdeal.Work

end
-- ==== Proof.Value.Equation.lean ====
/-
The kernel's result on every device is the reference's: both programs run, and end with the same array.
-/
module

public import proofs.«01_k».proof.Defs
public import proofs.«01_k».proof.Proof.Ideal.Launch
public import proofs.«01_k».proof.Proof.Value.Reference

@[expose] public section

set_option maxRecDepth 16384

noncomputable section

namespace Cert.KernelIdeal.Work

open Idealize.ShloMosaic Idealize.ShloMosaic.TcCoe Idealize.SL.Sem

/-- When each device holds its block of the reference's operands, the kernel's result array is the reference's. -/
theorem outAll_eq_reference (m : (ℓ : Loc KernelIdeal.nD KernelIdeal.τ KernelIdeal.sig) → Buf (Elt Ideal) ℓ)
    (A : FVec Ideal ReferenceIdeal.S1024x2048 .bf16) (B : FVec Ideal ReferenceIdeal.S2048x1024 .bf16)
    (h : ∀ c : Dev KernelIdeal.nD, m ((c : Thread KernelIdeal.nD KernelIdeal.τ).loc KernelIdeal.main_arg0) = Layout.block S1024x512 ReferenceIdeal.S1024x2048 1 4 c A
      ∧ m ((c : Thread KernelIdeal.nD KernelIdeal.τ).loc KernelIdeal.main_arg1) = Layout.block S512x1024 ReferenceIdeal.S2048x1024 0 4 c B) :
    outAll m = ReferenceIdeal.Work.result A B :=
  funext fun i => (outAll_whole A B (fun c => (lhs_eq m c).trans (h c).1) (fun c => (rhs_eq m c).trans (h c).2) i).trans
    (ReferenceIdeal.Work.result_apply A B i).symm

/-- Over the extended reals every device ends with the reference's result, and the operands of both programs are unchanged. -/
theorem algebraic : Cert.algebraic_KernelIdeal_ReferenceIdeal := by
  intro m g m' g' _ h
  refine ⟨ReferenceIdeal.Work.result (m' (((0 : Dev ReferenceIdeal.nD).tc : Thread ReferenceIdeal.nD ReferenceIdeal.τ).loc ReferenceIdeal.main_arg0))
    (m' (((0 : Dev ReferenceIdeal.nD).tc : Thread ReferenceIdeal.nD ReferenceIdeal.τ).loc ReferenceIdeal.main_arg1)), ?_, ?_⟩
  · refine (θ_run _ _ _).mono (fun r hr c => ?_) (run_main m g)
    exact ⟨((hr.1 c (2 : Fin 3)).trans (finalA_out m g c)).trans (outAll_eq_reference m _ _ h),
      (hr.1 c (0 : Fin 3)).trans (finalA_lhs m g c), (hr.1 c (1 : Fin 3)).trans (finalA_rhs m g c)⟩
  · exact (θ_run _ _ _).mono (fun _ hr => hr 0) (ReferenceIdeal.Value.run (F := Ideal) m' g')

end Cert.KernelIdeal.Work

end
-- ==== Proof.lean ====
/-
The certificate of the ring kernel: matrix product, reduction over four devices, activation, and the gather of the result.

Each of the two runs of the kernel is `run_main` (Proof/Ideal/Launch.lean over the extended reals, Proof/Bits/Launch.lean over the
machine's formats); the value is `algebraic` (Proof/Value/Equation.lean). Here they become the five claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Launch
public import proofs.«01_k».proof.Proof.Ideal.Launch
public import proofs.«01_k».proof.Proof.Value.Equation
public import Idealize.ShloMosaic.Adequacy
public import Idealize.ShloMosaic.Init

@[expose] public section

noncomputable section

namespace Cert.Proof

open Idealize.ShloMosaic Idealize.SL.Sem

/-- The kernel terminates with its operands unchanged and every counter at zero, over the machine's formats; -/
theorem frame_kernel : Cert.quiescent_Kernel := by
  intro m g _
  refine (θ_run _ _ _).mono (fun r hr => ⟨fun c => ?_, hr.2⟩) (Cert.Kernel.Work.run_main (F := Bits) m g)
  exact ⟨(hr.1 c (0 : Fin 3)).trans (Cert.Kernel.Work.finalA_lhs m g c), (hr.1 c (1 : Fin 3)).trans (Cert.Kernel.Work.finalA_rhs m g c)⟩

/-- over the extended reals; -/
theorem frame_ideal : Cert.quiescent_KernelIdeal := by
  intro m g _
  refine (θ_run _ _ _).mono (fun r hr => ⟨fun c => ?_, hr.2⟩) (Cert.KernelIdeal.Work.run_main (F := Ideal) m g)
  exact ⟨(hr.1 c (0 : Fin 3)).trans (Cert.KernelIdeal.Work.finalA_lhs m g c), (hr.1 c (1 : Fin 3)).trans (Cert.KernelIdeal.Work.finalA_rhs m g c)⟩

/-- and so does the reference, which has no counter. -/
theorem frame_reference : Cert.quiescent_ReferenceIdeal := by
  intro m g _
  exact (θ_run _ _ _).mono (fun r hr => ⟨fun c => (hr c).2, sem_eq_zero_of_no_sems (by decide) r.2⟩)
    (Cert.ReferenceIdeal.Value.run (F := Ideal) m g)

/-- The five claims. -/
theorem claim : Cert.Claim :=
  ⟨Cert.Kernel.Gen.facts, Cert.KernelIdeal.Gen.facts, Cert.ReferenceIdeal.Gen.facts,
    frame_kernel, frame_ideal, frame_reference, trivial, Cert.KernelIdeal.Work.algebraic⟩

end Cert.Proof

end
